-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codebook [hPre_finite_codebook : Cert.Pre_finite_codebook.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codebook.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codebook [hPre_finite_codebook : Cert.Pre_finite_codebook.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codebook.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_codebook [hKernelIdeal : Cert.KernelIdeal.Facts] [hPre_finite_codebook : Cert.Pre_finite_codebook.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codebook m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_codebook [hReferenceIdeal : Cert.ReferenceIdeal.Facts] [hPre_finite_codebook : Cert.Pre_finite_codebook.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codebook m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_n" .f32 0x35638E39#32 ((1 / 1179648 : ℝ) : EReal)

def algebraic_KernelIdeal_ReferenceIdeal_pre_finite_codebook [hKernelIdeal : Cert.KernelIdeal.Facts] [hReferenceIdeal : Cert.ReferenceIdeal.Facts] [hPre_finite_codebook : Cert.Pre_finite_codebook.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codebook m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_codebook : Cert.Pre_finite_codebook.Facts),
    quiescent_Kernel (hKernel := hKernel)
    ∧ quiescent_KernelIdeal (hKernelIdeal := hKernelIdeal)
    ∧ quiescent_KernelIdeal_pre_finite_codebook (hKernelIdeal := hKernelIdeal) (hPre_finite_codebook := hPre_finite_codebook)
    ∧ quiescent_ReferenceIdeal (hReferenceIdeal := hReferenceIdeal)
    ∧ quiescent_ReferenceIdeal_pre_finite_codebook (hReferenceIdeal := hReferenceIdeal) (hPre_finite_codebook := hPre_finite_codebook)
    ∧ preserves_Kernel_KernelIdeal
    ∧ algebraic_KernelIdeal_ReferenceIdeal_pre_finite_codebook (hKernelIdeal := hKernelIdeal) (hReferenceIdeal := hReferenceIdeal) (hPre_finite_codebook := hPre_finite_codebook)
-- ==== Pre_finite_codebook.lean ====
abbrev S32x576x64 : Shape := ⟨3, ![32, 576, 64]⟩
abbrev S1024x64 : Shape := ⟨2, ![1024, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel

variable [Facts]

def fn {F : FTy → Type} [FloatOps F] (main_arg0 : FVec F S32x576x64 .f32) (main_arg1 : FVec F S1024x64 .f32) : IVec S_ 1 :=
  let main_v0 : FVec F S1024x64 .f32 := Host.absf main_arg1
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  main_v3
-- ==== Kernel.lean ====
abbrev S32x576x64 : Shape := ⟨3, ![32, 576, 64]⟩
abbrev S1024x64 : Shape := ⟨2, ![1024, 64]⟩
abbrev S18432x64 : Shape := ⟨2, ![18432, 64]⟩
abbrev S64x18432 : Shape := ⟨2, ![64, 18432]⟩
abbrev S8x1x2304 : Shape := ⟨3, ![8, 1, 2304]⟩
abbrev S1x1 : Shape := ⟨2, ![1, 1]⟩
abbrev S2304x64 : Shape := ⟨2, ![2304, 64]⟩
abbrev S64x2304 : Shape := ⟨2, ![64, 2304]⟩
abbrev S1x1x2304 : Shape := ⟨3, ![1, 1, 2304]⟩
abbrev S2304 : Shape := ⟨1, ![2304]⟩
abbrev S2304x1 : Shape := ⟨2, ![2304, 1]⟩
abbrev S1024 : Shape := ⟨1, ![1024]⟩
abbrev S2304x1024 : Shape := ⟨2, ![2304, 1024]⟩
abbrev S1x1024 : Shape := ⟨2, ![1, 1024]⟩
abbrev S2304x128 : Shape := ⟨2, ![2304, 128]⟩
abbrev S128x2304 : Shape := ⟨2, ![128, 2304]⟩
abbrev S1x2304 : Shape := ⟨2, ![1, 2304]⟩
abbrev S1024x2304 : Shape := ⟨2, ![1024, 2304]⟩
abbrev S1 : Shape := ⟨1, ![1]⟩
abbrev S1x1x1 : Shape := ⟨3, ![1, 1, 1]⟩
abbrev S32x576 : Shape := ⟨2, ![32, 576]⟩
abbrev S_ : Shape := ⟨0, ![]⟩

abbrev nBuf : Space → Nat
  | .hbm => 14
  | .vmem => 9
  | .smem => 1
  | _ => 0

abbrev bufTy : (tb : Table) → Fin (tcTables nBuf tb) → BufTy
  | .hbm, ⟨0, _⟩ => ⟨S32x576x64, .f32⟩
  | .hbm, ⟨1, _⟩ => ⟨S1024x64, .f32⟩
  | .hbm, ⟨2, _⟩ => ⟨S18432x64, .f32⟩
  | .hbm, ⟨3, _⟩ => ⟨S1024x64, .bf16⟩
  | .hbm, ⟨4, _⟩ => ⟨S1024x64, .f32⟩
  | .hbm, ⟨5, _⟩ => ⟨S1024x64, .f32⟩
  | .hbm, ⟨6, _⟩ => ⟨S1024x64, .bf16⟩
  | .hbm, ⟨7, _⟩ => ⟨S64x18432, .f32⟩
  | .hbm, ⟨8, _⟩ => ⟨S8x1x2304, .i32⟩
  | .hbm, ⟨9, _⟩ => ⟨S1x1, .f32⟩
  | .hbm, ⟨10, _⟩ => ⟨S18432x64, .f32⟩
  | .hbm, ⟨11, _⟩ => ⟨S32x576x64, .f32⟩
  | .hbm, ⟨12, _⟩ => ⟨S32x576, .i32⟩
  | .hbm, ⟨13, _⟩ => ⟨S_, .f32⟩
  | .local _ .vmem, ⟨0, _⟩ => ⟨S2304x64, .f32⟩
  | .local _ .vmem, ⟨1, _⟩ => ⟨S2304x64, .f32⟩
  | .local _ .vmem, ⟨2, _⟩ => ⟨S1024x64, .f32⟩
  | .local _ .vmem, ⟨3, _⟩ => ⟨S1024x64, .bf16⟩
  | .local _ .vmem, ⟨4, _⟩ => ⟨S1024x64, .bf16⟩
  | .local _ .vmem, ⟨5, _⟩ => ⟨S64x2304, .f32⟩
  | .local _ .vmem, ⟨6, _⟩ => ⟨S64x2304, .f32⟩
  | .local _ .vmem, ⟨7, _⟩ => ⟨S1x1x2304, .i32⟩
  | .local _ .vmem, ⟨8, _⟩ => ⟨S1x1x2304, .i32⟩
  | .local _ .smem, ⟨0, _⟩ => ⟨S1x1, .f32⟩
  | _, _ => ⟨S32x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2304x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2304 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "inv_n" => some ((1 / 1179648 : ℝ) : EReal)
  | _ => none
-- ==== ReferenceIdeal.lean ====
abbrev S32x576x64 : Shape := ⟨3, ![32, 576, 64]⟩
abbrev S1024x64 : Shape := ⟨2, ![1024, 64]⟩
abbrev S_ : Shape := ⟨0, ![]⟩
abbrev S32x576 : Shape := ⟨2, ![32, 576]⟩
abbrev S32x576x1 : Shape := ⟨3, ![32, 576, 1]⟩
abbrev S18432x64 : Shape := ⟨2, ![18432, 64]⟩
abbrev S18432 : Shape := ⟨1, ![18432]⟩
abbrev S18432x1 : Shape := ⟨2, ![18432, 1]⟩
abbrev S64x1024 : Shape := ⟨2, ![64, 1024]⟩
abbrev S18432x1024 : Shape := ⟨2, ![18432, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S32x576x64, .f32⟩
  | .hbm, ⟨1, _⟩ => ⟨S1024x64, .f32⟩
  | .hbm, ⟨2, _⟩ => ⟨S_, .f32⟩
  | .hbm, ⟨3, _⟩ => ⟨S32x576, .f32⟩
  | .hbm, ⟨4, _⟩ => ⟨S32x576x1, .f32⟩
  | .hbm, ⟨5, _⟩ => ⟨S_, .f32⟩
  | .hbm, ⟨6, _⟩ => ⟨S32x576x1, .f32⟩
  | .hbm, ⟨7, _⟩ => ⟨S32x576x1, .f32⟩
  | .hbm, ⟨8, _⟩ => ⟨S_, .i32⟩
  | .hbm, ⟨9, _⟩ => ⟨S_, .f32⟩
  | .hbm, ⟨10, _⟩ => ⟨S32x576, .f32⟩
  | .hbm, ⟨11, _⟩ => ⟨S32x576x1, .f32⟩
  | .hbm, ⟨12, _⟩ => ⟨S_, .f32⟩
  | .hbm, ⟨13, _⟩ => ⟨S32x576x1, .f32⟩
  | .hbm, ⟨14, _⟩ => ⟨S32x576x1, .f32⟩
  | .hbm, ⟨15, _⟩ => ⟨S32x576x64, .f32⟩
  | .hbm, ⟨16, _⟩ => ⟨S32x576x64, .f32⟩
  | .hbm, ⟨17, _⟩ => ⟨S32x576x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32x576, .f32⟩
  | .hbm, ⟨23, _⟩ => ⟨S32x576x1, .f32⟩
  | .hbm, ⟨24, _⟩ => ⟨S32x576x1, .f32⟩
  | .hbm, ⟨25, _⟩ => ⟨S32x576x1, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S32x576x1, .f32⟩
  | .hbm, ⟨31, _⟩ => ⟨S32x576x1, .f32⟩
  | .hbm, ⟨32, _⟩ => ⟨S32x576x64, .f32⟩
  | .hbm, ⟨33, _⟩ => ⟨S32x576x64, .f32⟩
  | .hbm, ⟨34, _⟩ => ⟨S_, .f32⟩
  | .hbm, ⟨35, _⟩ => ⟨S32x576x1, .f32⟩
  | .hbm, ⟨36, _⟩ => ⟨S32x576x1, .f32⟩
  | .hbm, ⟨37, _⟩ => ⟨S32x576x1, .f32⟩
  | .hbm, ⟨38, _⟩ => ⟨S32x576x64, .f32⟩
  | .hbm, ⟨39, _⟩ => ⟨S32x576x64, .f32⟩
  | .hbm, ⟨40, _⟩ => ⟨S18432x64, .f32⟩
  | .hbm, ⟨41, _⟩ => ⟨S18432x64, .f32⟩
  | .hbm, ⟨42, _⟩ => ⟨S_, .f32⟩
  | .hbm, ⟨43, _⟩ => ⟨S18432, .f32⟩
  | .hbm, ⟨44, _⟩ => ⟨S18432x1, .f32⟩
  | .hbm, ⟨45, _⟩ => ⟨S_, .f32⟩
  | .hbm, ⟨46, _⟩ => ⟨S18432x64, .f32⟩
  | .hbm, ⟨47, _⟩ => ⟨S18432x64, .f32⟩
  | .hbm, ⟨48, _⟩ => ⟨S64x1024, .f32⟩
  | .hbm, ⟨49, _⟩ => ⟨S18432x1024, .f32⟩
  | .hbm, ⟨50, _⟩ => ⟨S18432x1024, .f32⟩
  | .hbm, ⟨51, _⟩ => ⟨S18432x1024, .f32⟩
  | .hbm, ⟨52, _⟩ => ⟨S1024x64, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S18432x1024, .f32⟩
  | .hbm, ⟨57, _⟩ => ⟨S18432x1024, .f32⟩
  | .hbm, ⟨58, _⟩ => ⟨S18432x1024, .i32⟩
  | .hbm, ⟨59, _⟩ => ⟨S_, .f32⟩
  | .hbm, ⟨60, _⟩ => ⟨S_, .i32⟩
  | .hbm, ⟨61, _⟩ => ⟨S18432, .f32⟩
  | .hbm, ⟨62, _⟩ => ⟨S18432, .i32⟩
  | .hbm, ⟨63, _⟩ => ⟨S_, .i32⟩
  | .hbm, ⟨64, _⟩ => ⟨S18432, .i32⟩
  | .hbm, ⟨65, _⟩ => ⟨S18432, .i1⟩
  | .hbm, ⟨66, _⟩ => ⟨S_, .i32⟩
  | .hbm, ⟨67, _⟩ => ⟨S18432, .i32⟩
  | .hbm, ⟨68, _⟩ => ⟨S18432, .i32⟩
  | .hbm, ⟨69, _⟩ => ⟨S18432, .i32⟩
  | .hbm, ⟨70, _⟩ => ⟨S18432x1, .i32⟩
  | .hbm, ⟨71, _⟩ => ⟨S1, .i32⟩
  | .hbm, ⟨72, _⟩ => ⟨S_, .i32⟩
  | .hbm, ⟨73, _⟩ => ⟨S18432x1, .i32⟩
  | .hbm, ⟨74, _⟩ => ⟨S18432x1, .i1⟩
  | .hbm, ⟨75, _⟩ => ⟨S1x1, .i32⟩
  | .hbm, ⟨76, _⟩ => ⟨S18432x1, .i32⟩
  | .hbm, ⟨77, _⟩ => ⟨S18432x1, .i1⟩
  | .hbm, ⟨78, _⟩ => ⟨S18432x1, .i1⟩
  | .hbm, ⟨79, _⟩ => ⟨S_, .i1⟩
  | .hbm, ⟨80, _⟩ => ⟨S18432, .i1⟩
  | .hbm, ⟨81, _⟩ => ⟨S18432x64, .f32⟩
  | .hbm, ⟨82, _⟩ => ⟨S18432x64, .i1⟩
  | .hbm, ⟨83, _⟩ => ⟨S_, .f32⟩
  | .hbm, ⟨84, _⟩ => ⟨S18432x64, .f32⟩
  | .hbm, ⟨85, _⟩ => ⟨S18432x64, .f32⟩
  | .hbm, ⟨86, _⟩ => ⟨S32x576x64, .f32⟩
  | .hbm, ⟨87, _⟩ => ⟨S32x576x64, .f32⟩
  | .hbm, ⟨88, _⟩ => ⟨S32x576x64, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S32x576x64, .f32⟩
  | .hbm, ⟨96, _⟩ => ⟨S32x576x64, .f32⟩
  | .hbm, ⟨97, _⟩ => ⟨S32x576, .i32⟩
  | _, _ => ⟨S32x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_call1_v0 : Ref sig .tc := ⟨.hbm, 58, rfl⟩
abbrev main_call1_cst : Ref sig .tc := ⟨.hbm, 59, rfl⟩
abbrev main_call1_c : Ref sig .tc := ⟨.hbm, 60, rfl⟩
abbrev main_call1_v1_0 : Ref sig .tc := ⟨.hbm, 61, rfl⟩
abbrev main_v27 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_cst_5 : Ref sig .tc := ⟨.hbm, 89, rfl⟩
abbrev main_v32 : Ref sig .tc := ⟨.hbm, 90, rfl⟩
abbrev main_cst_6 : Ref sig .tc := ⟨.hbm, 91, rfl⟩
abbrev main_v33 : Ref sig .tc := ⟨.hbm, 92, rfl⟩
abbrev main_cst_7 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩

abbrev nD : Nat := 1
abbrev τ : Topo := Topo.v7x

variable {F : FTy → Type} [FloatOps F]
-- ==== Proof.Vq.lean ====
/- The arithmetic of the vector quantisation, free of any program: the normalised row, the squared distance to a
   codebook row, and the first index at which a family of numbers is least. -/
module

public import Idealize.ShloMosaic.Lib.Pointwise

@[expose] public section

noncomputable section

namespace Cert.Vq

open Idealize.ShloMosaic

/-! ## The constants -/

/-- The word `0x42800000` is 64. -/
theorem c64 : Ideal.ofBits .f32 0x42800000#32 = ((64 : ℝ) : EReal) := by
  simp [Ideal.ofBits, Ideal.ieee, -EReal.coe_mul]; norm_num

/-- The word `0x40000000` is 2. -/
theorem c2 : Ideal.ofBits .f32 0x40000000#32 = ((2 : ℝ) : EReal) := by
  simp [Ideal.ofBits, Ideal.ieee, -EReal.coe_mul]; norm_num

/-- The word `0x3727C5AC`, the layer norm's epsilon, is a positive real. -/
theorem ceps : ∃ e : ℝ, 0 < e ∧ Ideal.ofBits .f32 0x3727C5AC#32 = (e : EReal) := by
  refine ⟨_, ?_, by simp [Ideal.ofBits, Ideal.ieee, -EReal.coe_mul]; rfl⟩
  norm_num

/-- The word `0x49900000` is 1179648, the number of entries of the input. -/
theorem cN : Ideal.ofBits .f32 0x49900000#32 = ((1179648 : ℝ) : EReal) := by
  simp [Ideal.ofBits, Ideal.ieee, -EReal.coe_mul]; norm_num

/-- The word `0x7F800000` is the top. -/
theorem cinf : Ideal.ofBits .f32 0x7F800000#32 = (⊤ : EReal) := by
  simp [Ideal.ofBits, Ideal.ieee]

/-- A sum of reals is the same sum among the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-! ## The normalised row -/

/-- The mean of a row of 64 numbers. -/
def mean (v : Fin 64 → EReal) : EReal := Ideal.div (∑ k, v k) (Ideal.ofBits .f32 0x42800000#32)

/-- The (biased) variance of a row. -/
def var (v : Fin 64 → EReal) : EReal :=
  Ideal.div (∑ k, (v k - mean v) * (v k - mean v)) (Ideal.ofBits .f32 0x42800000#32)

/-- The row normalised to mean zero and unit variance. -/
def nrm (v : Fin 64 → EReal) (k : Fin 64) : EReal :=
  Ideal.div (v k - mean v) (Ideal.sqrt (var v + Ideal.ofBits .f32 0x3727C5AC#32))

/-- The product of an extended real with itself is not negative. -/
theorem mul_self_nonneg' (a : EReal) : 0 ≤ a * a := by
  induction a with
  | bot => simp
  | top => simp
  | coe r => exact_mod_cast mul_self_nonneg r

/-- A number whose square is not the top is real. -/
theorem real_of_mul_self {a : EReal} (h : a * a ≠ ⊤) : ∃ r : ℝ, a = r := by
  induction a with
  | bot => simp at h
  | top => simp at h
  | coe r => exact ⟨r, rfl⟩

/-- Division by a real that is not zero, of a real. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- Every entry of a normalised row is real, whatever the row: a row with an infinite spread is divided by the top. -/
theorem nrm_real (v : Fin 64 → EReal) (k : Fin 64) : ∃ r : ℝ, nrm v k = r := by
  obtain ⟨e, he, hE⟩ := ceps
  unfold nrm
  by_cases hs : ∑ k, (v k - mean v) * (v k - mean v) = ⊤
  · have hv : var v = ⊤ := by
      unfold var Ideal.div
      rw [hs, c64, if_neg (by norm_num), ← EReal.coe_inv]
      exact EReal.top_mul_coe_of_pos (by norm_num)
    refine ⟨0, ?_⟩
    rw [hv, hE, EReal.top_add_coe, show Ideal.sqrt ⊤ = ⊤ from rfl]
    simp [Ideal.div]
  · have hle : ∀ j, (v j - mean v) * (v j - mean v) ≠ ⊤ := fun j hj => hs (top_le_iff.mp (hj ▸
      Finset.single_le_sum (f := fun j => (v j - mean v) * (v j - mean v)) (fun j _ => mul_self_nonneg' _) (Finset.mem_univ j)))
    choose a ha using fun j => real_of_mul_self (hle j)
    have hsum : ∑ k, (v k - mean v) * (v k - mean v) = ((∑ k, a k * a k : ℝ) : EReal) := by
      rw [coe_sum]
      exact Finset.sum_congr rfl fun j _ => by rw [ha j, EReal.coe_mul]
    have h0 : 0 ≤ ∑ k, a k * a k := Finset.sum_nonneg fun j _ => mul_self_nonneg _
    have hv : var v = (((∑ k, a k * a k) / 64 : ℝ) : EReal) := by
      unfold var
      rw [hsum, c64, div_coe _ _ (by norm_num)]
    have hp : 0 < (∑ k, a k * a k) / 64 + e := by positivity
    rw [hv, hE, ← EReal.coe_add, ha k]
    have hq : Ideal.sqrt (((∑ k, a k * a k) / 64 + e : ℝ) : EReal) = ((Real.sqrt ((∑ k, a k * a k) / 64 + e) : ℝ) : EReal) := by
      show (if _ then _ else _) = _
      rw [if_neg (not_lt.mpr hp.le)]
    rw [hq, div_coe _ _ (Real.sqrt_pos.mpr hp).ne']
    exact ⟨_, rfl⟩

/-- The normalised row as reals. -/
def X (v : Fin 64 → EReal) (k : Fin 64) : ℝ := (nrm v k).toReal

/-- The normalised row is the row of reals `X v`. -/
theorem nrm_eq (v : Fin 64 → EReal) (k : Fin 64) : nrm v k = (X v k : EReal) := by
  obtain ⟨r, hr⟩ := nrm_real v k
  simp [X, hr]

/-! ## The distance -/

/-- The squared distance of two rows of reals. -/
def sqd (x c : Fin 64 → ℝ) : ℝ := ∑ k, (x k - c k) * (x k - c k)

/-- The squared distance expanded the way the kernel computes it, twice the product of the rows taken off. -/
theorem sqd_of_two_mul (x c : Fin 64 → ℝ) :
    (∑ k, (x k : EReal) * (x k : EReal)) - Ideal.ofBits .f32 0x40000000#32 * (∑ k, (x k : EReal) * (c k : EReal))
      + ∑ k, (c k : EReal) * (c k : EReal) = (sqd x c : EReal) := by
  rw [c2]
  simp only [← EReal.coe_mul, ← coe_sum, ← EReal.coe_sub, ← EReal.coe_add]
  congr 1
  rw [Finset.mul_sum, ← Finset.sum_sub_distrib, ← Finset.sum_add_distrib, sqd]
  exact Finset.sum_congr rfl fun k _ => by ring

/-- The squared distance expanded the way the reference computes it, the row doubled before the product. -/
theorem sqd_of_mul_two (x c : Fin 64 → ℝ) :
    (∑ k, (x k : EReal) * (x k : EReal)) - (∑ k, Ideal.ofBits .f32 0x40000000#32 * (x k : EReal) * (c k : EReal))
      + ∑ k, (c k : EReal) * (c k : EReal) = (sqd x c : EReal) := by
  rw [c2]
  simp only [← EReal.coe_mul, ← coe_sum, ← EReal.coe_sub, ← EReal.coe_add]
  congr 1
  rw [← Finset.sum_sub_distrib, ← Finset.sum_add_distrib, sqd]
  exact Finset.sum_congr rfl fun k _ => by ring

/-- The squared distances of the normalised row `v` to the codebook's rows, as extended reals. -/
def D (v : Fin 64 → EReal) (C : Fin 1024 → Fin 64 → ℝ) (n : Fin 1024) : EReal := (sqd (X v) (C n) : EReal)

/-! ## The first index of the least -/

/-- `n` is the first index at which `d` is least. -/
def IsArgmin {N : ℕ} (d : Fin N → EReal) (n : Fin N) : Prop := (∀ m, d n ≤ d m) ∧ ∀ m < n, d n < d m

/-- There is one. -/
theorem exists_argmin {N : ℕ} [NeZero N] (d : Fin N → EReal) : ∃ n, IsArgmin d n := by
  obtain ⟨a, ha⟩ := Finite.exists_min d
  let S := Finset.univ.filter fun n => ∀ m, d n ≤ d m
  have hS : S.Nonempty := ⟨a, by simp [S, ha]⟩
  have hmem := S.min'_mem hS
  refine ⟨S.min' hS, (Finset.mem_filter.mp hmem).2, fun m hm => ?_⟩
  by_contra hlt
  exact absurd hm (not_lt.mpr (S.min'_le m (Finset.mem_filter.mpr
    ⟨Finset.mem_univ _, fun k => (not_lt.mp hlt).trans ((Finset.mem_filter.mp hmem).2 k)⟩)))

/-- The first index at which `d` is least. -/
def amin (d : Fin 1024 → EReal) : Fin 1024 := (exists_argmin d).choose

/-- `amin d` is the first index at which `d` is least. -/
theorem amin_spec (d : Fin 1024 → EReal) : IsArgmin d (amin d) := (exists_argmin d).choose_spec

/-! ## The least over eight lane groups, then over the lanes -/

/-- After the groups up to `g`: `w` is the word of the first group at which `f` is least, and `c` is that least. -/
def Best (f : Fin 8 → EReal) (g : ℕ) (w : BitVec 32) (c : EReal) : Prop :=
  ∃ G : Fin 8, G.val ≤ g ∧ w = BitVec.ofNat 32 G.val ∧ c = f G ∧ (∀ h : Fin 8, h.val ≤ g → c ≤ f h) ∧ ∀ h < G, c < f h

/-- The first group alone. -/
theorem best_zero (f : Fin 8 → EReal) : Best f 0 0#32 (f 0) := by
  refine ⟨0, le_rfl, rfl, rfl, fun h hh => ?_, fun h hh => absurd hh (Fin.not_lt_zero h)⟩
  rw [show h = 0 from Fin.ext (Nat.le_zero.mp hh)]

/-- One more group: taken when it is strictly below the least so far. -/
theorem best_succ {f : Fin 8 → EReal} {g : ℕ} {w : BitVec 32} {c : EReal} (h : Best f g w c) (g' : Fin 8) (hg : g'.val = g + 1) :
    Best f g'.val (if f g' < c then BitVec.ofNat 32 g'.val else w) (if f g' < c then f g' else c) := by
  obtain ⟨G, hG, rfl, rfl, hle, hlt⟩ := h
  by_cases hc : f g' < f G
  · simp only [if_pos hc]
    refine ⟨g', le_rfl, rfl, rfl, fun k hk => ?_, fun k hk => ?_⟩
    · rcases Nat.lt_or_ge g k.val with h1 | h1
      · rw [show k = g' from Fin.ext (by omega)]
      · exact hc.le.trans (hle k h1)
    · exact hc.trans_le (hle k (by have := Fin.lt_def.mp hk; omega))
  · simp only [if_neg hc]
    refine ⟨G, by omega, rfl, rfl, fun k hk => ?_, hlt⟩
    rcases Nat.lt_or_ge g k.val with h1 | h1
    · rw [show k = g' from Fin.ext (by omega)]
      exact not_lt.mp hc
    · exact hle k h1

/-- The signed least of a family of words and a starting word is the member that is at most all of them. -/
theorem fold_minsi {N : ℕ} (f : Fin N → BitVec 32) (a v : BitVec 32) (l : Fin N) (hl : f l = v)
    (h : ∀ k, v.toInt ≤ (f k).toInt) (ha : v.toInt ≤ a.toInt) : Finset.univ.fold IntOp.minsi a f = v := by
  have h1 : v.toInt ≤ (Finset.univ.fold IntOp.minsi a f).toInt :=
    (Finset.fold_op_rel_iff_and (r := fun x y : BitVec 32 => x.toInt ≤ y.toInt) (op := IntOp.minsi)
      (fun {x y z} => by unfold IntOp.minsi; split_ifs with hh <;> simp_all [BitVec.slt, BitVec.sle] <;> omega)).mpr ⟨ha, fun k _ => h k⟩
  have h2 : (Finset.univ.fold IntOp.minsi a f).toInt ≤ v.toInt :=
    (Finset.fold_op_rel_iff_or (r := fun x y : BitVec 32 => y.toInt ≤ x.toInt) (op := IntOp.minsi)
      (fun {x y z} => by unfold IntOp.minsi; split_ifs with hh <;> simp_all [BitVec.slt, BitVec.sle] <;> omega)).mpr
      (Or.inr ⟨l, Finset.mem_univ l, hl ▸ le_rfl⟩)
  exact BitVec.eq_of_toInt_eq (le_antisymm h2 h1)

/-- The least over the lanes of the least over the groups is the least of all. -/
theorem fold_min_lanes (d : Fin 1024 → EReal) (w : Fin 128 → BitVec 32) (c : Fin 128 → EReal)
    (hB : ∀ l : Fin 128, Best (fun g => d ⟨g.val * 128 + l.val, by omega⟩) 7 (w l) (c l)) :
    Finset.univ.fold min (⊤ : EReal) c = d (amin d) := by
  obtain ⟨hmin, -⟩ := amin_spec d
  refine le_antisymm ?_ ?_
  · refine (Finset.fold_min_le _).mpr (Or.inr ⟨⟨(amin d).val % 128, Nat.mod_lt _ (by norm_num)⟩, Finset.mem_univ _, ?_⟩)
    obtain ⟨G, -, -, -, hle, -⟩ := hB ⟨(amin d).val % 128, Nat.mod_lt _ (by norm_num)⟩
    have hat : d ⟨(amin d).val / 128 * 128 + (amin d).val % 128, by omega⟩ = d (amin d) := by
      congr 1
      exact Fin.ext (by simp only; omega)
    exact (hle ⟨(amin d).val / 128, by omega⟩ (by simp only; omega)).trans (le_of_eq hat)
  · refine (Finset.le_fold_min _).mpr ⟨le_top, fun l _ => ?_⟩
    obtain ⟨G, -, -, hc, -, -⟩ := hB l
    rw [hc]
    exact hmin _

/-- Of the lanes whose least is the least of all, the smallest index `group * 128 + lane` is the first at which `d` is least. -/
theorem fold_minsi_lanes (d : Fin 1024 → EReal) (w : Fin 128 → BitVec 32) (c : Fin 128 → EReal)
    (hB : ∀ l : Fin 128, Best (fun g => d ⟨g.val * 128 + l.val, by omega⟩) 7 (w l) (c l)) :
    Finset.univ.fold IntOp.minsi 2147483647#32 (fun l : Fin 128 =>
      if c l = d (amin d) then IntOp.addi (IntOp.muli (w l) 128#32) (BitVec.ofNat 32 l.val) else 1073741824#32)
      = BitVec.ofNat 32 (amin d).val := by
  obtain ⟨hmin, hfst⟩ := amin_spec d
  have hword : ∀ G : Fin 8, ∀ l : Fin 128, IntOp.addi (IntOp.muli (BitVec.ofNat 32 G.val) 128#32) (BitVec.ofNat 32 l.val)
      = BitVec.ofNat 32 (G.val * 128 + l.val) := fun G l => by
    simp only [IntOp.addi, IntOp.muli]
    apply BitVec.eq_of_toNat_eq
    simp [BitVec.toNat_add, BitVec.toNat_mul]
  have hint : ∀ n : ℕ, n < 1024 → (BitVec.ofNat 32 n).toInt = n := fun n hn => by
    rw [BitVec.toInt_eq_toNat_of_lt (by simp; omega), BitVec.toNat_ofNat, Nat.mod_eq_of_lt (by omega)]
  have hn := (amin d).isLt
  refine fold_minsi _ _ _ ⟨(amin d).val % 128, Nat.mod_lt _ (by norm_num)⟩ ?_ (fun l => ?_) ?_
  · obtain ⟨G, -, hw, hc, hle, hlt⟩ := hB ⟨(amin d).val % 128, Nat.mod_lt _ (by norm_num)⟩
    have hat : d ⟨(amin d).val / 128 * 128 + (amin d).val % 128, by omega⟩ = d (amin d) := by
      congr 1
      exact Fin.ext (by simp only; omega)
    have hce : c ⟨(amin d).val % 128, Nat.mod_lt _ (by norm_num)⟩ = d (amin d) :=
      le_antisymm ((hle ⟨(amin d).val / 128, by omega⟩ (by simp only; omega)).trans (le_of_eq hat)) (by rw [hc]; exact hmin _)
    have hG : G.val = (amin d).val / 128 := by
      rcases Nat.lt_trichotomy G.val ((amin d).val / 128) with h1 | h1 | h1
      · have := hfst ⟨G.val * 128 + (amin d).val % 128, by omega⟩ (Fin.lt_def.mpr (by simp only; omega))
        rw [← hce, hc] at this
        exact absurd this (lt_irrefl _)
      · exact h1
      · have := hlt ⟨(amin d).val / 128, by omega⟩ (Fin.lt_def.mpr h1)
        rw [hce] at this
        replace this := this.trans_eq hat
        exact absurd this (lt_irrefl _)
    rw [if_pos hce, hw, hword, hG]
    congr 1
    simp only
    omega
  · obtain ⟨G, -, hw, hc, -, -⟩ := hB l
    rw [hint _ hn]
    split_ifs with he
    · rw [hw, hword, hint _ (by omega)]
      by_contra hlt
      have := hfst ⟨G.val * 128 + l.val, by omega⟩ (Fin.lt_def.mpr (by simp only; omega))
      rw [← he, hc] at this
      exact absurd this (lt_irrefl _)
    · have : (1073741824#32 : BitVec 32).toInt = 1073741824 := by decide
      rw [this]; omega
  · rw [hint _ hn]
    have : (2147483647#32 : BitVec 32).toInt = 2147483647 := by decide
    rw [this]; omega

end Cert.Vq

end
-- ==== Proof.KerPure.lean ====
/- The kernel body's payloads read at an index: the squared distances, the least of each row with the first index at
   which it is reached, the codebook row at that index, and the running sum of the leasts. -/
module

public import proofs.«01_k».proof.Proof.Gen.KernelIdeal.Skeleton
public import proofs.«01_k».proof.Proof.Vq
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

/-- Row `r` of a block of the input. -/
abbrev rowOf (x : FVec Ideal S2304x64 .f32) (r : Fin 2304) : Fin 64 → EReal := fun k => x (ix2 r k)

/-- The codebook's entries are the reals `C`. -/
def IsReal (cb : FVec Ideal S1024x64 .f32) (C : Fin 1024 → Fin 64 → ℝ) : Prop := ∀ n k, cb (ix2 n k) = (C n k : EReal)

/-- The distances the kernel computes, over the normalised row. -/
theorem pay5_nrm (x : FVec Ideal S2304x64 .f32) (cb : FVec Ideal S1024x64 .f32) (r : Fin 2304) (n : Fin 1024) :
    k0_pay5 (F := Ideal) x cb (ix2 r n) =
      (∑ k, Vq.nrm (rowOf x r) k * Vq.nrm (rowOf x r) k)
        - Ideal.ofBits .f32 0x40000000#32 * (∑ k, Vq.nrm (rowOf x r) k * cb (ix2 n k))
        + ∑ k, cb (ix2 n k) * cb (ix2 n k) := by
  pointwise [k0_pay5, Vq.nrm, Vq.mean, Vq.var]

/-- Over a codebook of reals they are the squared distances. -/
theorem pay5_eq (x : FVec Ideal S2304x64 .f32) (cb : FVec Ideal S1024x64 .f32) (C : Fin 1024 → Fin 64 → ℝ) (hC : IsReal cb C)
    (r : Fin 2304) (n : Fin 1024) : k0_pay5 (F := Ideal) x cb (ix2 r n) = Vq.D (rowOf x r) C n := by
  rw [pay5_nrm, Vq.D, ← Vq.sqd_of_two_mul]
  simp only [Vq.nrm_eq, hC n]

/-! ## The groups of lanes -/

section Groups

variable (d : FVec Ideal S2304x1024 .f32) (v42 : FVec Ideal S128x2304 .f32) (v43 : FVec Ideal S2304x128 .f32)
variable (r : Fin 2304) (l : Fin 128)

/-- The least so far, with group 2. -/
theorem pay14_eq : k0_pay14 (F := Ideal) v42 v43 (ix2 l r)
    = if v43 (ix2 r l) < v42 (ix2 l r) then v43 (ix2 r l) else v42 (ix2 l r) := by
  pointwise [k0_pay14, k0_pay13, k0_pay12]

/-- The group word so far, with group 2. -/
theorem pay13_select (a b : BitVec 32) : Scalar.select (k0_pay13 (F := Ideal) v42 v43 (ix2 l r)) a b
    = if v43 (ix2 r l) < v42 (ix2 l r) then a else b := by
  pointwise [k0_pay13, k0_pay12]

/-- The least so far, with group 3. -/
theorem pay17_eq : k0_pay17 (F := Ideal) d v42 v43 (ix2 l r)
    = if d (ix2 r ⟨3 * 128 + l.val, by omega⟩) < k0_pay14 (F := Ideal) v42 v43 (ix2 l r) then d (ix2 r ⟨3 * 128 + l.val, by omega⟩)
      else k0_pay14 (F := Ideal) v42 v43 (ix2 l r) := by
  pointwise [k0_pay17, k0_pay16, k0_pay15]

/-- The group word so far, with group 3. -/
theorem pay16_select (a b : BitVec 32) : Scalar.select (k0_pay16 (F := Ideal) d v42 v43 (ix2 l r)) a b
    = if d (ix2 r ⟨3 * 128 + l.val, by omega⟩) < k0_pay14 (F := Ideal) v42 v43 (ix2 l r) then a else b := by
  pointwise [k0_pay16, k0_pay15]

/-- The least so far, with group 4. -/
theorem pay20_eq : k0_pay20 (F := Ideal) d v42 v43 (ix2 l r)
    = if d (ix2 r ⟨4 * 128 + l.val, by omega⟩) < k0_pay17 (F := Ideal) d v42 v43 (ix2 l r) then d (ix2 r ⟨4 * 128 + l.val, by omega⟩)
      else k0_pay17 (F := Ideal) d v42 v43 (ix2 l r) := by
  pointwise [k0_pay20, k0_pay19, k0_pay18]

/-- The group word so far, with group 4. -/
theorem pay19_select (a b : BitVec 32) : Scalar.select (k0_pay19 (F := Ideal) d v42 v43 (ix2 l r)) a b
    = if d (ix2 r ⟨4 * 128 + l.val, by omega⟩) < k0_pay17 (F := Ideal) d v42 v43 (ix2 l r) then a else b := by
  pointwise [k0_pay19, k0_pay18]

/-- The least so far, with group 5. -/
theorem pay23_eq : k0_pay23 (F := Ideal) d v42 v43 (ix2 l r)
    = if d (ix2 r ⟨5 * 128 + l.val, by omega⟩) < k0_pay20 (F := Ideal) d v42 v43 (ix2 l r) then d (ix2 r ⟨5 * 128 + l.val, by omega⟩)
      else k0_pay20 (F := Ideal) d v42 v43 (ix2 l r) := by
  pointwise [k0_pay23, k0_pay22, k0_pay21]

/-- The group word so far, with group 5. -/
theorem pay22_select (a b : BitVec 32) : Scalar.select (k0_pay22 (F := Ideal) d v42 v43 (ix2 l r)) a b
    = if d (ix2 r ⟨5 * 128 + l.val, by omega⟩) < k0_pay20 (F := Ideal) d v42 v43 (ix2 l r) then a else b := by
  pointwise [k0_pay22, k0_pay21]

/-- The least so far, with group 6. -/
theorem pay26_eq : k0_pay26 (F := Ideal) d v42 v43 (ix2 l r)
    = if d (ix2 r ⟨6 * 128 + l.val, by omega⟩) < k0_pay23 (F := Ideal) d v42 v43 (ix2 l r) then d (ix2 r ⟨6 * 128 + l.val, by omega⟩)
      else k0_pay23 (F := Ideal) d v42 v43 (ix2 l r) := by
  pointwise [k0_pay26, k0_pay25, k0_pay24]

/-- The group word so far, with group 6. -/
theorem pay25_select (a b : BitVec 32) : Scalar.select (k0_pay25 (F := Ideal) d v42 v43 (ix2 l r)) a b
    = if d (ix2 r ⟨6 * 128 + l.val, by omega⟩) < k0_pay23 (F := Ideal) d v42 v43 (ix2 l r) then a else b := by
  pointwise [k0_pay25, k0_pay24]

/-- The least so far, with group 7. -/
theorem pay29_eq : k0_pay29 (F := Ideal) d v42 v43 (ix2 l r)
    = if d (ix2 r ⟨7 * 128 + l.val, by omega⟩) < k0_pay26 (F := Ideal) d v42 v43 (ix2 l r) then d (ix2 r ⟨7 * 128 + l.val, by omega⟩)
      else k0_pay26 (F := Ideal) d v42 v43 (ix2 l r) := by
  pointwise [k0_pay29, k0_pay28, k0_pay27]

/-- The group word so far, with group 7. -/
theorem pay28_select (a b : BitVec 32) : Scalar.select (k0_pay28 (F := Ideal) d v42 v43 (ix2 l r)) a b
    = if d (ix2 r ⟨7 * 128 + l.val, by omega⟩) < k0_pay26 (F := Ideal) d v42 v43 (ix2 l r) then a else b := by
  pointwise [k0_pay28, k0_pay27]

end Groups

section Rows

variable (x : FVec Ideal S2304x64 .f32) (cb : FVec Ideal S1024x64 .f32)

/-- The least of each lane over its eight groups. -/
abbrev laneMin : FVec Ideal S128x2304 .f32 := k0_pay29 (F := Ideal) (k0_pay5 x cb) (k0_pay10 x cb) (k0_pay11 x cb)

/-- The word of the first group at which a lane's least is reached. -/
def laneWord (r : Fin 2304) (l : Fin 128) : BitVec 32 :=
  let d := k0_pay5 (F := Ideal) x cb
  let v42 := k0_pay10 (F := Ideal) x cb
  let v43 := k0_pay11 (F := Ideal) x cb
  Scalar.select (k0_pay28 d v42 v43 (ix2 l r)) 7#32 (Scalar.select (k0_pay25 d v42 v43 (ix2 l r)) 6#32
    (Scalar.select (k0_pay22 d v42 v43 (ix2 l r)) 5#32 (Scalar.select (k0_pay19 d v42 v43 (ix2 l r)) 4#32
      (Scalar.select (k0_pay16 d v42 v43 (ix2 l r)) 3#32 (Scalar.select (k0_pay13 v42 v43 (ix2 l r)) 2#32
        (k0_pay9 (F := Ideal) x cb (ix2 l r)))))))

/-- Each lane carries the least of its eight groups and the word of the first group reaching it. -/
theorem best_lane (r : Fin 2304) (l : Fin 128) :
    Vq.Best (fun g : Fin 8 => k0_pay5 (F := Ideal) x cb (ix2 r ⟨g.val * 128 + l.val, by omega⟩)) 7 (laneWord x cb r l)
      (laneMin x cb (ix2 l r)) := by
  have h0 := Vq.best_zero (fun g : Fin 8 => k0_pay5 (F := Ideal) x cb (ix2 r ⟨g.val * 128 + l.val, by omega⟩))
  have h1 := Vq.best_succ h0 1 rfl
  have e9 : k0_pay9 (F := Ideal) x cb (ix2 l r) = if k0_pay5 (F := Ideal) x cb (ix2 r ⟨1 * 128 + l.val, by omega⟩)
      < k0_pay5 (F := Ideal) x cb (ix2 r ⟨0 * 128 + l.val, by omega⟩) then 1#32 else 0#32 := by
    pointwise [k0_pay9, k0_pay8, k0_pay7, k0_pay6]
  have e10 : k0_pay10 (F := Ideal) x cb (ix2 l r) = if k0_pay5 (F := Ideal) x cb (ix2 r ⟨1 * 128 + l.val, by omega⟩)
      < k0_pay5 (F := Ideal) x cb (ix2 r ⟨0 * 128 + l.val, by omega⟩) then k0_pay5 (F := Ideal) x cb (ix2 r ⟨1 * 128 + l.val, by omega⟩)
      else k0_pay5 (F := Ideal) x cb (ix2 r ⟨0 * 128 + l.val, by omega⟩) := by
    pointwise [k0_pay10, k0_pay8, k0_pay7, k0_pay6]
  have e11 : k0_pay11 (F := Ideal) x cb (ix2 r l) = k0_pay5 (F := Ideal) x cb (ix2 r ⟨2 * 128 + l.val, by omega⟩) := by
    pointwise [k0_pay11]
  have g1 : Vq.Best (fun g : Fin 8 => k0_pay5 (F := Ideal) x cb (ix2 r ⟨g.val * 128 + l.val, by omega⟩)) 1
      (k0_pay9 (F := Ideal) x cb (ix2 l r)) (k0_pay10 (F := Ideal) x cb (ix2 l r)) := by
    rw [e9, e10]; exact h1
  have h2 := Vq.best_succ g1 2 rfl
  simp only [laneWord, laneMin, pay29_eq, pay28_select, pay26_eq, pay25_select, pay23_eq, pay22_select, pay20_eq, pay19_select,
    pay17_eq, pay16_select, pay14_eq, pay13_select, e11]
  have h3 := Vq.best_succ h2 3 rfl
  have h4 := Vq.best_succ h3 4 rfl
  have h5 := Vq.best_succ h4 5 rfl
  have h6 := Vq.best_succ h5 6 rfl
  exact Vq.best_succ h6 7 rfl

variable (C : Fin 1024 → Fin 64 → ℝ)

/-- The index of the codebook row nearest to row `r` of the block. -/
abbrev best (r : Fin 2304) : Fin 1024 := Vq.amin (Vq.D (rowOf x r) C)

/-- The least distances of the block's rows. -/
abbrev rowMin : FVec Ideal S1x2304 .f32 := k0_pay30 (F := Ideal) (k0_pay5 x cb) (k0_pay10 x cb) (k0_pay11 x cb)

/-- The indices of the block's rows. -/
abbrev rowIdx : IVec S1x2304 32 := k0_pay31 (F := Ideal) (k0_pay5 x cb) (k0_pay9 (F := Ideal) x cb) (k0_pay10 x cb) (k0_pay11 x cb)

/-- The mask with a one where the codebook's row is the nearest. -/
abbrev oneHot : IVec S1024x2304 1 := k0_pay32 (F := Ideal) (k0_pay5 x cb) (k0_pay9 (F := Ideal) x cb) (k0_pay10 x cb) (k0_pay11 x cb)

variable {cb C} (hC : IsReal cb C)
include hC

/-- Each lane's least and word, over the squared distances. -/
theorem best_lane_D (r : Fin 2304) (l : Fin 128) :
    Vq.Best (fun g : Fin 8 => Vq.D (rowOf x r) C ⟨g.val * 128 + l.val, by omega⟩) 7 (laneWord x cb r l) (laneMin x cb (ix2 l r)) := by
  have h := best_lane x cb r l
  simp only [pay5_eq x cb C hC] at h
  exact h

/-- The least over the lanes is the least squared distance. -/
theorem rowMin_eq (r : Fin 2304) : rowMin x cb (ix2 0 r) = Vq.D (rowOf x r) C (best x C r) := by
  rw [← Vq.fold_min_lanes (Vq.D (rowOf x r) C) (laneWord x cb r) (fun l => laneMin x cb (ix2 l r)) (best_lane_D x hC r), ← Vq.cinf]
  pointwise [k0_pay30]

/-- The index is that of the first nearest codebook row. -/
theorem rowIdx_eq (r : Fin 2304) : rowIdx x cb (ix2 0 r) = BitVec.ofNat 32 (best x C r).val := by
  have h := Vq.fold_minsi_lanes (Vq.D (rowOf x r) C) (laneWord x cb r) (fun l => laneMin x cb (ix2 l r)) (best_lane_D x hC r)
  rw [← h, ← rowMin_eq x hC r]
  pointwise [k0_pay31, laneWord]

/-- The mask at codebook row `n`. -/
theorem oneHot_eq (n : Fin 1024) (r : Fin 2304) : oneHot x cb (ix2 n r) = if n = best x C r then 1#1 else 0#1 := by
  have h : oneHot x cb (ix2 n r) = IntOp.cmpi .eq (BitVec.ofNat 32 n.val) (rowIdx x cb (ix2 0 r)) := by
    pointwise [k0_pay32]
  have hb := (best x C r).isLt
  rw [h, rowIdx_eq x hC]
  by_cases hn : n = best x C r
  · rw [if_pos hn, hn]; simp [IntOp.cmpi]
  · rw [if_neg hn]
    have : BitVec.ofNat 32 n.val ≠ BitVec.ofNat 32 (best x C r).val := fun he => hn (Fin.ext (by
      have := congrArg BitVec.toNat he
      simp only [BitVec.toNat_ofNat] at this
      omega))
    simp only [IntOp.cmpi, beq_eq_false_iff_ne.mpr this]
    rfl

/-- The product of the codebook with the mask picks the nearest row; the codebook's rounding error, zero here, adds nothing. -/
theorem quant_eq (hi lo : Vec Ideal S1024x64 .bf16) (hhi : ∀ n k, hi (ix2 n k) = (C n k : EReal)) (hlo : ∀ n k, lo (ix2 n k) = (0 : EReal))
    (k : Fin 64) (r : Fin 2304) : k0_pay1 (F := Ideal) (oneHot x cb) hi lo (ix2 k r) = (C (best x C r) k : EReal) := by
  have h : k0_pay1 (F := Ideal) (oneHot x cb) hi lo (ix2 k r)
      = (∑ n, hi (ix2 n k) * FloatOps.sitofp (F := Ideal) .f32 (BitVec.setWidth 32 (oneHot x cb (ix2 n r))))
        + ∑ n, lo (ix2 n k) * FloatOps.sitofp (F := Ideal) .f32 (BitVec.setWidth 32 (oneHot x cb (ix2 n r))) := by
    pointwise [k0_pay1]
  have h1 : FloatOps.sitofp (F := Ideal) .f32 (BitVec.setWidth 32 1#1) = (1 : EReal) := by
    show ((((BitVec.setWidth 32 1#1).toInt : ℝ)) : EReal) = 1
    simp
  have h0 : FloatOps.sitofp (F := Ideal) .f32 (BitVec.setWidth 32 0#1) = (0 : EReal) := by
    show ((((BitVec.setWidth 32 0#1).toInt : ℝ)) : EReal) = 0
    simp
  rw [h]
  simp only [hhi, hlo, zero_mul, Finset.sum_const_zero, add_zero, oneHot_eq x hC]
  rw [Finset.sum_eq_single (best x C r) (fun n _ hn => by rw [if_neg hn, h0, mul_zero]) (fun hn => absurd (Finset.mem_univ _) hn),
    if_pos rfl, h1, mul_one]

omit hC in
/-- The running sum takes in a block's least distances. -/
theorem pay3_eq (v : FVec Ideal S1x2304 .f32) (a : EReal) : k0_pay3 (F := Ideal) v a = a + ∑ r : Fin 2304, v (ix2 0 r) := by
  unfold k0_pay3
  pointwise []
  simp

end Rows

end Cert.KernelIdeal.Value

end
-- ==== Proof.KerRun.lean ====
module

public import proofs.«01_k».proof.Proof.Gen.KernelIdeal.Frame
public import proofs.«01_k».proof.Proof.KerPure
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- What a point leaves in the block of quantised rows. -/
theorem outs4 (c : Dev nD) (t : Fin cfg0.N) : (outsAt0 m c t.val t.isLt).1
    = k0_pay1 (F := Ideal) (oneHot (iblk m c 0 t) (iblk m c 1 t)) (iblk m c 2 t) (iblk m c 3 t) := by
  have hN : t.val < 8 := lt_of_lt_of_eq t.isLt N_0
  by_cases h0 : t.val % 8 = 0
  · rw [outsAt0_A m c t h0 (by omega)]; frame_out
  · by_cases h1 : t.val % 8 = 7
    · rw [outsAt0_C m c t h0 h1]; frame_out
    · rw [outsAt0_B m c t h0 h1]; frame_out

/-- What a point leaves in the block of indices. -/
theorem outs5 (c : Dev nD) (t : Fin cfg0.N) : (outsAt0 m c t.val t.isLt).2.1
    = k0_pay2 (rowIdx (iblk m c 0 t) (iblk m c 1 t)) := by
  have hN : t.val < 8 := lt_of_lt_of_eq t.isLt N_0
  by_cases h0 : t.val % 8 = 0
  · rw [outsAt0_A m c t h0 (by omega)]; frame_out
  · by_cases h1 : t.val % 8 = 7
    · rw [outsAt0_C m c t h0 h1]; frame_out
    · rw [outsAt0_B m c t h0 h1]; frame_out

/-- The one-element block has one index. -/
theorem idx_one (i : S1x1.Idx) : i = ix2 0 0 := by
  funext a
  apply Fin.ext
  have := (i a).isLt
  fin_cases a <;> simp_all [ix2, S1x1]

/-- The running sum after the first point: its terms over zero. -/
theorem outs6_A (c : Dev nD) (t : Fin cfg0.N) (h0 : t.val % 8 = 0) (h1 : ¬t.val % 8 = 7) : (outsAt0 m c t.val t.isLt).2.2
    = fun _ => k0_pay3 (F := Ideal) (rowMin (iblk m c 0 t) (iblk m c 1 t)) (0 : EReal) := by
  rw [outsAt0_A m c t h0 h1]; frame_out
  rw [show (FloatOps.ofBits (F := Ideal) FTy.f32 0#32) = (0 : EReal) by exact Ideal.ofBits_zero_f32]
  rfl

/-- The running sum after a middle point: its terms over the previous sum. -/
theorem outs6_B (c : Dev nD) (t : Fin cfg0.N) (h0 : ¬t.val % 8 = 0) (h1 : ¬t.val % 8 = 7) : (outsAt0 m c t.val t.isLt).2.2
    = fun _ => k0_pay3 (F := Ideal) (rowMin (iblk m c 0 t) (iblk m c 1 t))
      ((outsAt0 m c (t.val - 1) (Nat.lt_of_le_of_lt (Nat.sub_le _ _) t.isLt)).2.2 (ix2 0 0)) := by
  rw [outsAt0_B m c t h0 h1]; frame_out
  funext _
  exact congrArg (fun a => k0_pay3 (F := Ideal) (rowMin (iblk m c 0 t) (iblk m c 1 t)) a) (show _ = (outsAt0 m c (t.val - 1) (Nat.lt_of_le_of_lt (Nat.sub_le _ _) t.isLt)).2.2 (ix2 0 0) from
      congrArg (outsAt0 m c (t.val - 1) (Nat.lt_of_le_of_lt (Nat.sub_le _ _) t.isLt)).2.2 (idx_one _))

/-- The running sum after the last point: its terms over the previous sum, all times the constant. -/
theorem outs6_C (c : Dev nD) (t : Fin cfg0.N) (h0 : ¬t.val % 8 = 0) (h1 : t.val % 8 = 7) : (outsAt0 m c t.val t.isLt).2.2
    = fun _ => k0_pay4 (F := Ideal) (k0_pay3 (F := Ideal) (rowMin (iblk m c 0 t) (iblk m c 1 t))
      ((outsAt0 m c (t.val - 1) (Nat.lt_of_le_of_lt (Nat.sub_le _ _) t.isLt)).2.2 (ix2 0 0))) := by
  rw [outsAt0_C m c t h0 h1]; frame_out
  funext _
  exact congrArg (fun a => k0_pay4 (F := Ideal) (k0_pay3 (F := Ideal) (rowMin (iblk m c 0 t) (iblk m c 1 t)) a))
    (show _ = (outsAt0 m c (t.val - 1) (Nat.lt_of_le_of_lt (Nat.sub_le _ _) t.isLt)).2.2 (ix2 0 0) from
      congrArg (outsAt0 m c (t.val - 1) (Nat.lt_of_le_of_lt (Nat.sub_le _ _) t.isLt)).2.2 (idx_one _))

/-- The block indices of the windows at a point. -/
theorem idx : ∀ t : Fin cfg0.N, win0_0.index t = ![t.val, 0] ∧ win0_1.index t = ![0, 0] ∧ win0_2.index t = ![0, 0]
    ∧ win0_3.index t = ![0, 0] ∧ win0_4.index t = ![0, t.val] ∧ win0_5.index t = ![t.val, 0, 0] ∧ win0_6.index t = ![0, 0] :=
  (by decide +kernel : ∀ t : Fin grid0.N, _)

/-- The first argument, the input. -/
abbrev xArg (c : Dev nD) : Vec Ideal S32x576x64 .f32 := m ((c.tc : Thread nD τ).loc main_arg0)
/-- The second argument, the codebook. -/
abbrev cbArg (c : Dev nD) : Vec Ideal S1024x64 .f32 := m ((c.tc : Thread nD τ).loc main_arg1)

/-- Row `R` of the input, the two leading axes taken as one. -/
def xrow (x : Vec Ideal S32x576x64 .f32) (R : Fin 18432) : Fin 64 → EReal :=
  fun k => x (ix3 ⟨R.val / 576, by omega⟩ ⟨R.val % 576, by omega⟩ k)

/-- Row `r` of block `t` among all rows. -/
def row (t : Fin cfg0.N) (r : Fin 2304) : Fin 18432 :=
  ⟨t.val * 2304 + r.val, by have := lt_of_lt_of_eq t.isLt N_0; omega⟩

/-- The input as the launch finds it: its rows taken as one axis. -/
theorem V_main_v0 (c : Dev nD) : V m c main_v0 = shapeCast S18432x64 (xArg m c) shapeCasts_S32x576x64_S18432x64 := by
  unfold V V0
  simp only [hostOps0, hostOps0_1, List.flatten_cons, List.flatten_nil, List.append_nil, List.cons_append, List.nil_append]
  after_results_simp
  rfl

/-- The codebook's first part on real entries: the codebook itself. -/
theorem V_hi (c : Dev nD) (n : Fin 1024) (k : Fin 64) :
    (V m c main_call0_v0 : Vec Ideal S1024x64 .bf16) (ix2 n k) = cbArg m c (ix2 n k) := by
  unfold V V0
  simp only [hostOps0, hostOps0_1, List.flatten_cons, List.flatten_nil, List.append_nil, List.cons_append, List.nil_append]
  after_results_simp
  rfl

/-- The codebook's second part: an entry less itself. -/
theorem V_lo (c : Dev nD) (n : Fin 1024) (k : Fin 64) :
    (V m c main_call0_v3 : Vec Ideal S1024x64 .bf16) (ix2 n k) = cbArg m c (ix2 n k) - cbArg m c (ix2 n k) := by
  unfold V V0
  simp only [hostOps0, hostOps0_1, List.flatten_cons, List.flatten_nil, List.append_nil, List.cons_append, List.nil_append]
  after_results_simp
  rfl

/-- Row `r` of the block of inputs at point `t`. -/
theorem rowOf_iblk (c : Dev nD) (t : Fin cfg0.N) (r : Fin 2304) :
    rowOf (iblk m c 0 t) r = xrow (xArg m c) (row t r) := by
  have hN : t.val < 8 := lt_of_lt_of_eq t.isLt N_0
  funext k
  unfold rowOf xrow row
  blk_simp [iblk]
  rw [V_main_v0]
  pointwise
  blk_point [idx t]

/-- The codebook block at every point is the whole codebook. -/
theorem iblk1_eq (c : Dev nD) (t : Fin cfg0.N) (n : Fin 1024) (k : Fin 64) :
    (iblk m c 1 t : Vec Ideal S1024x64 .f32) (ix2 n k) = cbArg m c (ix2 n k) := by
  blk_point [iblk, V, idx t]

/-- The block of the codebook's first part at every point is, over the extended reals, the codebook. -/
theorem iblk2_eq (c : Dev nD) (t : Fin cfg0.N) (n : Fin 1024) (k : Fin 64) :
    (iblk m c 2 t : Vec Ideal S1024x64 .bf16) (ix2 n k) = cbArg m c (ix2 n k) := by
  refine Eq.trans ?_ (V_hi m c n k)
  blk_point [iblk, idx t]

/-- The block of the codebook's second part at every point is, entry by entry, the codebook less itself. -/
theorem iblk3_eq (c : Dev nD) (t : Fin cfg0.N) (n : Fin 1024) (k : Fin 64) :
    (iblk m c 3 t : Vec Ideal S1024x64 .bf16) (ix2 n k) = cbArg m c (ix2 n k) - cbArg m c (ix2 n k) := by
  refine Eq.trans ?_ (V_lo m c n k)
  blk_point [iblk, idx t]

section Finals
variable {m} {c : Dev nD} {C : Fin 1024 → Fin 64 → ℝ} (hC : IsReal (cbArg m c) C)
include hC

/-- If the codebook is one of reals, so is its block at every point. -/
theorem isReal_iblk (t : Fin cfg0.N) : IsReal (iblk m c 1 t) C := fun n k => (iblk1_eq m c t n k).trans (hC n k)

/-- The block of quantised rows a point leaves. -/
theorem outs4_apply (t : Fin cfg0.N) (k : Fin 64) (r : Fin 2304) : (outsAt0 m c t.val t.isLt).1 (ix2 k r)
    = (C (Vq.amin (Vq.D (xrow (xArg m c) (row t r)) C)) k : EReal) := by
  rw [outs4, quant_eq (iblk m c 0 t) (isReal_iblk hC t) _ _ (fun n k => (iblk2_eq m c t n k).trans (hC n k))
    (fun n k => (iblk3_eq m c t n k).trans (by rw [hC n k, ← EReal.coe_sub, sub_self, EReal.coe_zero])) k r]
  unfold best
  rw [rowOf_iblk]

/-- The block of indices a point leaves. -/
theorem outs5_apply (t : Fin cfg0.N) (r : Fin 2304) : (outsAt0 m c t.val t.isLt).2.1 (ix3 0 0 r)
    = BitVec.ofNat 32 (Vq.amin (Vq.D (xrow (xArg m c) (row t r)) C)).val := by
  rw [outs5]
  have h := rowIdx_eq (iblk m c 0 t) (isReal_iblk hC t) r
  unfold best at h
  rw [rowOf_iblk] at h
  rw [← h]
  pointwise [k0_pay2]

/-- The quantised rows after the launch. -/
theorem final4 : (dats m 0 c).arrAt 4 cfg0.N
    = fun i : S64x18432.Idx => (C (Vq.amin (Vq.D (xrow (xArg m c) (i 1)) C)) (i 0) : EReal) := by
  refine (dats m 0 c).arrAt_eq_of_covers 4 _ (by decide +kernel) fun t _ y => ?_
  blk_simp
  rw [after0_4]
  obtain ⟨k, r, rfl⟩ : ∃ (k : Fin 64) (r : Fin 2304), y = ix2 k r := ⟨y 0, y 1, eq_ix2 (n0 := 64) (n1 := 2304) y⟩
  have e0 : (win0_4.blk t).view.emb (ix2 k r) 0 = k := Fin.ext (by blk_simp [idx t])
  have e1 : (win0_4.blk t).view.emb (ix2 k r) 1 = row t r := Fin.ext (by blk_simp [idx t, row])
  refine (outs4_apply hC t k r).trans ?_
  rw [e0, e1]

/-- The indices after the launch. -/
theorem final5 : (dats m 0 c).arrAt 5 cfg0.N
    = fun i : S8x1x2304.Idx => BitVec.ofNat 32 (Vq.amin (Vq.D (xrow (xArg m c)
        ⟨(i 0 : ℕ) * 2304 + (i 2 : ℕ), by have h0 : (i 0 : ℕ) < 8 := (i 0).isLt; have h2 : (i 2 : ℕ) < 2304 := (i 2).isLt; omega⟩) C)).val := by
  refine (dats m 0 c).arrAt_eq_of_covers 5 _ (by decide +kernel) fun t _ y => ?_
  blk_simp
  rw [after0_5]
  obtain ⟨a, b, r, rfl⟩ : ∃ (a b : Fin 1) (r : Fin 2304), y = ix3 a b r := ⟨y 0, y 1, y 2, eq_ix3 (n0 := 1) (n1 := 1) (n2 := 2304) y⟩
  obtain rfl := Subsingleton.elim a 0
  obtain rfl := Subsingleton.elim b 0
  refine (outs5_apply hC t r).trans ?_
  refine congrArg (fun R => BitVec.ofNat 32 (Vq.amin (Vq.D (xrow (xArg m c) R) C)).val) (Fin.ext ?_)
  simp [idx t, row]

omit hC in
/-- The terms point `n` adds to the running sum. -/
def part (x : Vec Ideal S32x576x64 .f32) (C : Fin 1024 → Fin 64 → ℝ) (n : ℕ) : EReal :=
  if h : n < 8 then ∑ r : Fin 2304, Vq.D (xrow x ⟨n * 2304 + r.val, by omega⟩) C
    (Vq.amin (Vq.D (xrow x ⟨n * 2304 + r.val, by omega⟩) C)) else 0

/-- A point adds its rows' least distances to the sum it finds. -/
theorem sum_rowMin (t : Fin cfg0.N) (a : EReal) :
    k0_pay3 (F := Ideal) (rowMin (iblk m c 0 t) (iblk m c 1 t)) a = a + part (xArg m c) C t.val := by
  have hN : t.val < 8 := lt_of_lt_of_eq t.isLt N_0
  rw [pay3_eq, part, dif_pos hN]
  refine congrArg (a + ·) (Finset.sum_congr rfl fun r _ => ?_)
  rw [rowMin_eq (iblk m c 0 t) (isReal_iblk hC t) r]
  unfold best
  rw [rowOf_iblk]
  rfl

/-- The running sum before the last point. -/
theorem running : ∀ n (hn : n < cfg0.N), n < 7 →
    (outsAt0 m c n hn).2.2 (ix2 0 0) = ∑ s ∈ Finset.range (n + 1), part (xArg m c) C s := by
  intro n
  induction n with
  | zero =>
    intro hn _
    rw [outs6_A m c ⟨0, hn⟩ (by simp) (by simp), sum_rowMin hC, Finset.sum_range_one, zero_add]
  | succ n ih =>
    intro hn h7
    rw [outs6_B m c ⟨n + 1, hn⟩ (by simp only; omega) (by simp only; omega), sum_rowMin hC, Finset.sum_range_succ _ (n + 1)]
    exact congrArg (· + part (xArg m c) C (n + 1)) (ih _ (by omega))

/-- The loss after the launch. -/
theorem final6 : (dats m 0 c).arrAt 6 cfg0.N
    = fun _ : S1x1.Idx => k0_pay4 (F := Ideal) (∑ s ∈ Finset.range 8, part (xArg m c) C s) := by
  refine (dats m 0 c).arrAt_eq_of_after_last 6 t0_7 (by decide +kernel) _ fun j => ?_
  blk_simp
  rw [after0_6, outs6_C m c t0_7 (by decide +kernel) (by decide +kernel), sum_rowMin hC, Finset.sum_range_succ _ 7]
  exact congrArg (fun a => k0_pay4 (F := Ideal) (a + part (xArg m c) C 7)) (running hC 6 _ (by omega))

end Finals

/-- The nearest codeword of the input row at `b, n`. -/
abbrev near (x : Vec Ideal S32x576x64 .f32) (C : Fin 1024 → Fin 64 → ℝ) (b : Fin 32) (n : Fin 576) : Fin 1024 :=
  Vq.amin (Vq.D (fun k => x (ix3 b n k)) C)

/-- Row `576 b + n` of the rows taken as one axis is the input row at `b, n`. -/
theorem xrow_mk (x : Vec Ideal S32x576x64 .f32) (b : Fin 32) (n : Fin 576) (R : Fin 18432) (hR : R.val = b.val * 576 + n.val) :
    xrow x R = fun k => x (ix3 b n k) := by
  funext k
  unfold xrow
  have e0 : R.val / 576 = b.val := by omega
  have e1 : R.val % 576 = n.val := by omega
  simp only [e0, e1, Fin.eta]

/-- The sum of all rows' least distances. -/
def total (x : Vec Ideal S32x576x64 .f32) (C : Fin 1024 → Fin 64 → ℝ) : EReal :=
  ∑ R : Fin 18432, Vq.D (xrow x R) C (Vq.amin (Vq.D (xrow x R) C))

/-- The eight points' terms add up to the sum over all rows. -/
theorem sum_part (x : Vec Ideal S32x576x64 .f32) (C : Fin 1024 → Fin 64 → ℝ) :
    ∑ s ∈ Finset.range 8, part x C s = total x C := by
  unfold total
  rw [Fin.sum_univ_tiles 8 2304 rfl, Finset.sum_range]
  refine Finset.sum_congr rfl fun s _ => ?_
  rw [part, dif_pos s.isLt]

section Tail
variable {m} {c : Dev nD} {C : Fin 1024 → Fin 64 → ℝ} (hC : IsReal (cbArg m c) C)
include hC

/-- The quantised rows the program returns. -/
theorem tail_v3 (b : Fin 32) (n : Fin 576) (k : Fin 64) :
    (Pipeline.afterTail₀ cfgs (dats m) 0 (V0 m) [hostOps1] c main_v3 : Vec Ideal S32x576x64 .f32) (ix3 b n k)
      = (C (near (xArg m c) C b n) k : EReal) := by
  unfold Pipeline.afterTail₀
  simp only [hostOps1, List.flatten_cons, List.flatten_nil, List.append_nil, List.cons_append, List.nil_append]
  after_results_simp
  rw [show Pipeline.withArrays (cfgs 0).spec c (V0 m c) (fun w => (dats m 0 c).arrAt w (cfgs 0).N) (Proc.tc.devRef main_v1_0)
    = _ from (Pipeline.withArrays_arr spec0 (by decide) c (V0 m c) (fun w => (dats m 0 c).arrAt w cfg0.N) 4).trans (final4 hC)]
  pointwise
  rw [xrow_mk _ b n _ (by simp)]

/-- The indices the program returns. -/
theorem tail_v4 (b : Fin 32) (n : Fin 576) :
    (Pipeline.afterTail₀ cfgs (dats m) 0 (V0 m) [hostOps1] c main_v4 : Vec Ideal S32x576 .i32) (ix2 b n)
      = BitVec.ofNat 32 (near (xArg m c) C b n).val := by
  unfold Pipeline.afterTail₀
  simp only [hostOps1, List.flatten_cons, List.flatten_nil, List.append_nil, List.cons_append, List.nil_append]
  after_results_simp
  rw [show Pipeline.withArrays (cfgs 0).spec c (V0 m c) (fun w => (dats m 0 c).arrAt w (cfgs 0).N) (Proc.tc.devRef main_v1_1)
    = _ from (Pipeline.withArrays_arr spec0 (by decide) c (V0 m c) (fun w => (dats m 0 c).arrAt w cfg0.N) 5).trans (final5 hC)]
  pointwise
  rw [xrow_mk _ b n _ (by simp; omega)]

/-- The loss the program returns. -/
theorem tail_v5 (i : S_.Idx) :
    (Pipeline.afterTail₀ cfgs (dats m) 0 (V0 m) [hostOps1] c main_v5 : Vec Ideal S_ .f32) i
      = k0_pay4 (F := Ideal) (total (xArg m c) C) := by
  unfold Pipeline.afterTail₀
  simp only [hostOps1, List.flatten_cons, List.flatten_nil, List.append_nil, List.cons_append, List.nil_append]
  after_results_simp
  rw [show Pipeline.withArrays (cfgs 0).spec c (V0 m c) (fun w => (dats m 0 c).arrAt w (cfgs 0).N) (Proc.tc.devRef main_v1_2)
    = _ from (Pipeline.withArrays_arr spec0 (by decide) c (V0 m c) (fun w => (dats m 0 c).arrAt w cfg0.N) 6).trans (final6 hC),
    sum_part]
  rfl

end Tail

/-- What the kernel program leaves in its three results, on a codebook of the reals `C`: the nearest codewords, their
    indices, and the sum of the least distances times the constant; the arguments are as launched. -/
theorem run (ρ : Dev nD → PrngReg) (C : Dev nD → Fin 1024 → Fin 64 → ℝ) (hC : ∀ c, IsReal (cbArg m c) (C c)) :
    θ_run defs (onTc (τ := τ) (main (F := Ideal))) (s₀ m ρ) fun r => ∀ c : Dev nD,
      (∀ b n k, (r.2.mem ((c.tc : Thread nD τ).loc main_v3) : Vec Ideal S32x576x64 .f32) (ix3 b n k)
        = (C c (near (xArg m c) (C c) b n) k : EReal))
      ∧ (∀ b n, (r.2.mem ((c.tc : Thread nD τ).loc main_v4) : Vec Ideal S32x576 .i32) (ix2 b n)
        = BitVec.ofNat 32 (near (xArg m c) (C c) b n).val)
      ∧ (∀ i, (r.2.mem ((c.tc : Thread nD τ).loc main_v5) : Vec Ideal S_ .f32) i
        = k0_pay4 (F := Ideal) (total (xArg m c) (C c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
    fun b n k => (congrFun ((h c).2 main_v3 (Pipeline.mem_restRefs_of main_v3 (by decide) (by decide))) _).trans (tail_v3 (hC c) b n k),
    fun b n => (congrFun ((h c).2 main_v4 (Pipeline.mem_restRefs_of main_v4 (by decide) (by decide))) _).trans (tail_v4 (hC c) b n),
    fun i => (congrFun ((h c).2 main_v5 (Pipeline.mem_restRefs_of main_v5 (by decide) (by decide))) _).trans (tail_v5 (hC c) i),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c)))⟩) (run_main m ρ)

end Cert.KernelIdeal.Value

end
-- ==== Proof.RefRun.lean ====
/- The reference program's host operations as a list, and its run read back: every weakly fair execution ends with each
   result buffer at the operations' composed term of the arguments, the arguments unchanged. -/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Up to the normalised input and its rows. -/
abbrev opsA : List (HloOp τ sig (Elt F)) :=
  [ nullary main_cst (constant S_ .f32 0x00000000#32),
    binary main_arg0 main_cst main_v0 ((fun x v => Host.reduceAdd x v reducesTo_S32x576x64_S32x576_d2 h_S_) : (⟨S32x576x64, .f32⟩ : BufTy).Contents (Elt F) → (⟨S_, .f32⟩ : BufTy).Contents (Elt F) → (⟨S32x576, .f32⟩ : BufTy).Contents (Elt F)),
    unary main_v0 main_v1 (broadcastInDim S32x576x1 ![0, 1] bcast_S32x576_S32x576x1_0_1 : (⟨S32x576, .f32⟩ : BufTy).Contents (Elt F) → (⟨S32x576x1, .f32⟩ : BufTy).Contents (Elt F)),
    nullary main_cst_0 (constant S_ .f32 0x42800000#32),
    unary main_cst_0 main_v2 (broadcastInDim S32x576x1 ![] bcast_S_S32x576x1 : (⟨S_, .f32⟩ : BufTy).Contents (Elt F) → (⟨S32x576x1, .f32⟩ : BufTy).Contents (Elt F)),
    binary main_v1 main_v2 main_v3 (Host.divf : (⟨S32x576x1, .f32⟩ : BufTy).Contents (Elt F) → (⟨S32x576x1, .f32⟩ : BufTy).Contents (Elt F) → (⟨S32x576x1, .f32⟩ : BufTy).Contents (Elt F)),
    nullary main_c (constantI S_ 32 0#32),
    TRef.nullary (TRef.of (T := ⟨S_, .f32⟩) main_call0_cst) (constant S_ .f32 0x00000000#32),
    TRef.binary (TRef.of (T := ⟨S32x576x64, .f32⟩) main_arg0) (TRef.of (T := ⟨S_, .f32⟩) main_call0_cst) (TRef.of (T := ⟨S32x576, .f32⟩) main_call0_v0) (fun x v => Host.reduceAdd x v reducesTo_S32x576x64_S32x576_d2 h_S_),
    TRef.unary (TRef.of (T := ⟨S32x576, .f32⟩) main_call0_v0) (TRef.of (T := ⟨S32x576x1, .f32⟩) main_call0_v1) (broadcastInDim S32x576x1 ![0, 1] bcast_S32x576_S32x576x1_0_1),
    TRef.nullary (TRef.of (T := ⟨S_, .f32⟩) main_call0_cst_0) (constant S_ .f32 0x42800000#32),
    TRef.unary (TRef.of (T := ⟨S_, .f32⟩) main_call0_cst_0) (TRef.of (T := ⟨S32x576x1, .f32⟩) main_call0_v2) (broadcastInDim S32x576x1 ![] bcast_S_S32x576x1),
    TRef.binary (TRef.of (T := ⟨S32x576x1, .f32⟩) main_call0_v1) (TRef.of (T := ⟨S32x576x1, .f32⟩) main_call0_v2) (TRef.of (T := ⟨S32x576x1, .f32⟩) main_call0_v3) Host.divf,
    TRef.unary (TRef.of (T := ⟨S32x576x1, .f32⟩) main_call0_v3) (TRef.of (T := ⟨S32x576x64, .f32⟩) main_call0_v4) (broadcastInDim S32x576x64 ![0, 1, 2] bcast_S32x576x1_S32x576x64_0_1_2),
    TRef.binary (TRef.of (T := ⟨S32x576x64, .f32⟩) main_arg0) (TRef.of (T := ⟨S32x576x64, .f32⟩) main_call0_v4) (TRef.of (T := ⟨S32x576x64, .f32⟩) main_call0_v5) subf,
    TRef.binary (TRef.of (T := ⟨S32x576x64, .f32⟩) main_call0_v5) (TRef.of (T := ⟨S32x576x64, .f32⟩) main_call0_v5) (TRef.of (T := ⟨S32x576x64, .f32⟩) main_call0_v6) mulf,
    TRef.unary (TRef.of (T := ⟨S_, .i32⟩) main_c) (TRef.of (T := ⟨S_, .f32⟩) main_call0_v7) (sitofp .f32),
    TRef.nullary (TRef.of (T := ⟨S_, .f32⟩) main_call0_cst_1) (constant S_ .f32 0x42800000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S32x576x64, .f32⟩) main_call0_v6) (TRef.of (T := ⟨S_, .f32⟩) main_call0_cst_2) (TRef.of (T := ⟨S32x576, .f32⟩) main_call0_v9) (fun x v => Host.reduceAdd x v reducesTo_S32x576x64_S32x576_d2 h_S_),
    TRef.unary (TRef.of (T := ⟨S32x576, .f32⟩) main_call0_v9) (TRef.of (T := ⟨S32x576x1, .f32⟩) main_call0_v10) (broadcastInDim S32x576x1 ![0, 1] bcast_S32x576_S32x576x1_0_1),
    TRef.unary (TRef.of (T := ⟨S_, .f32⟩) main_call0_v8) (TRef.of (T := ⟨S32x576x1, .f32⟩) main_call0_v11) (broadcastInDim S32x576x1 ![] bcast_S_S32x576x1),
    TRef.binary (TRef.of (T := ⟨S32x576x1, .f32⟩) main_call0_v10) (TRef.of (T := ⟨S32x576x1, .f32⟩) main_call0_v11) (TRef.of (T := ⟨S32x576x1, .f32⟩) main_call0_v12) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v13) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S32x576x1, .f32⟩) main_call0_call0_v1) (broadcastInDim S32x576x1 ![] bcast_S_S32x576x1),
    TRef.ternary (TRef.of (T := ⟨S_, .i1⟩) main_call0_v13) (TRef.of (T := ⟨S32x576x1, .f32⟩) main_call0_v12) (TRef.of (T := ⟨S32x576x1, .f32⟩) main_call0_call0_v1) (TRef.of (T := ⟨S32x576x1, .f32⟩) main_v4) (fun p a b => select (broadcastInDim S32x576x1 ![] bcast_S_S32x576x1 p) a b),
    unary main_v3 main_v5 (broadcastInDim S32x576x64 ![0, 1, 2] bcast_S32x576x1_S32x576x64_0_1_2 : (⟨S32x576x1, .f32⟩ : BufTy).Contents (Elt F) → (⟨S32x576x64, .f32⟩ : BufTy).Contents (Elt F)),
    binary main_arg0 main_v5 main_v6 (subf : (⟨S32x576x64, .f32⟩ : BufTy).Contents (Elt F) → (⟨S32x576x64, .f32⟩ : BufTy).Contents (Elt F) → (⟨S32x576x64, .f32⟩ : BufTy).Contents (Elt F)),
    nullary main_cst_1 (constant S_ .f32 0x3727C5AC#32),
    unary main_cst_1 main_v7 (broadcastInDim S32x576x1 ![] bcast_S_S32x576x1 : (⟨S_, .f32⟩ : BufTy).Contents (Elt F) → (⟨S32x576x1, .f32⟩ : BufTy).Contents (Elt F)),
    binary main_v4 main_v7 main_v8 (addf : (⟨S32x576x1, .f32⟩ : BufTy).Contents (Elt F) → (⟨S32x576x1, .f32⟩ : BufTy).Contents (Elt F) → (⟨S32x576x1, .f32⟩ : BufTy).Contents (Elt F)),
    unary main_v8 main_v9 (Host.sqrt : (⟨S32x576x1, .f32⟩ : BufTy).Contents (Elt F) → (⟨S32x576x1, .f32⟩ : BufTy).Contents (Elt F)),
    unary main_v9 main_v10 (broadcastInDim S32x576x64 ![0, 1, 2] bcast_S32x576x1_S32x576x64_0_1_2 : (⟨S32x576x1, .f32⟩ : BufTy).Contents (Elt F) → (⟨S32x576x64, .f32⟩ : BufTy).Contents (Elt F)),
    binary main_v6 main_v10 main_v11 (Host.divf : (⟨S32x576x64, .f32⟩ : BufTy).Contents (Elt F) → (⟨S32x576x64, .f32⟩ : BufTy).Contents (Elt F) → (⟨S32x576x64, .f32⟩ : BufTy).Contents (Elt F)),
    reshape main_v11 main_v12 (rfl : (.f32 : EltTy) = .f32) shapeCasts_S32x576x64_S18432x64 ]

/-- The table of squared distances. -/
abbrev opsB : List (HloOp τ sig (Elt F)) :=
  [ binary main_v12 main_v12 main_v13 (mulf : (⟨S18432x64, .f32⟩ : BufTy).Contents (Elt F) → (⟨S18432x64, .f32⟩ : BufTy).Contents (Elt F) → (⟨S18432x64, .f32⟩ : BufTy).Contents (Elt F)),
    nullary main_cst_2 (constant S_ .f32 0x00000000#32),
    binary main_v13 main_cst_2 main_v14 ((fun x v => Host.reduceAdd x v reducesTo_S18432x64_S18432_d1 h_S_) : (⟨S18432x64, .f32⟩ : BufTy).Contents (Elt F) → (⟨S_, .f32⟩ : BufTy).Contents (Elt F) → (⟨S18432, .f32⟩ : BufTy).Contents (Elt F)),
    unary main_v14 main_v15 (broadcastInDim S18432x1 ![0] bcast_S18432_S18432x1_0 : (⟨S18432, .f32⟩ : BufTy).Contents (Elt F) → (⟨S18432x1, .f32⟩ : BufTy).Contents (Elt F)),
    nullary main_cst_3 (constant S_ .f32 0x40000000#32),
    unary main_cst_3 main_v16 (broadcastInDim S18432x64 ![] bcast_S_S18432x64 : (⟨S_, .f32⟩ : BufTy).Contents (Elt F) → (⟨S18432x64, .f32⟩ : BufTy).Contents (Elt F)),
    binary main_v16 main_v12 main_v17 (mulf : (⟨S18432x64, .f32⟩ : BufTy).Contents (Elt F) → (⟨S18432x64, .f32⟩ : BufTy).Contents (Elt F) → (⟨S18432x64, .f32⟩ : BufTy).Contents (Elt F)),
    unary main_arg1 main_v18 ((transpose S64x1024 [1, 0] · transposes_S1024x64_S64x1024_1_0) : (⟨S1024x64, .f32⟩ : BufTy).Contents (Elt F) → (⟨S64x1024, .f32⟩ : BufTy).Contents (Elt F)),
    binary main_v17 main_v18 main_v19 ((fun l r => Host.dotGeneral dot_S18432x64_S64x1024_S18432x1024_1_0_0_1_n_n none l r) : (⟨S18432x64, .f32⟩ : BufTy).Contents (Elt F) → (⟨S64x1024, .f32⟩ : BufTy).Contents (Elt F) → (⟨S18432x1024, .f32⟩ : BufTy).Contents (Elt F)),
    unary main_v15 main_v20 (broadcastInDim S18432x1024 ![0, 1] bcast_S18432x1_S18432x1024_0_1 : (⟨S18432x1, .f32⟩ : BufTy).Contents (Elt F) → (⟨S18432x1024, .f32⟩ : BufTy).Contents (Elt F)),
    binary main_v20 main_v19 main_v21 (subf : (⟨S18432x1024, .f32⟩ : BufTy).Contents (Elt F) → (⟨S18432x1024, .f32⟩ : BufTy).Contents (Elt F) → (⟨S18432x1024, .f32⟩ : BufTy).Contents (Elt F)),
    binary main_arg1 main_arg1 main_v22 (mulf : (⟨S1024x64, .f32⟩ : BufTy).Contents (Elt F) → (⟨S1024x64, .f32⟩ : BufTy).Contents (Elt F) → (⟨S1024x64, .f32⟩ : BufTy).Contents (Elt F)),
    nullary main_cst_4 (constant S_ .f32 0x00000000#32),
    binary main_v22 main_cst_4 main_v23 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v23 main_v24 (broadcastInDim S1x1024 ![1] bcast_S1024_S1x1024_1 : (⟨S1024, .f32⟩ : BufTy).Contents (Elt F) → (⟨S1x1024, .f32⟩ : BufTy).Contents (Elt F)),
    unary main_v24 main_v25 (broadcastInDim S18432x1024 ![0, 1] bcast_S1x1024_S18432x1024_0_1 : (⟨S1x1024, .f32⟩ : BufTy).Contents (Elt F) → (⟨S18432x1024, .f32⟩ : BufTy).Contents (Elt F)),
    binary main_v21 main_v25 main_v26 (addf : (⟨S18432x1024, .f32⟩ : BufTy).Contents (Elt F) → (⟨S18432x1024, .f32⟩ : BufTy).Contents (Elt F) → (⟨S18432x1024, .f32⟩ : BufTy).Contents (Elt F)) ]

/-- The index of the least distance of each row. -/
abbrev opsC : List (HloOp τ sig (Elt F)) :=
  [ TRef.nullary (TRef.of (T := ⟨S18432x1024, .i32⟩) main_call1_v0) (iotaInDim S18432x1024 32 1),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S18432x1024, .f32⟩) main_v26) (TRef.of (T := ⟨S18432x1024, .i32⟩) main_call1_v0) (TRef.of (T := ⟨S_, .f32⟩) main_call1_cst) (TRef.of (T := ⟨S_, .i32⟩) main_call1_c) (TRef.of (T := ⟨S18432, .f32⟩) main_call1_v1_0) (fun x y u v j => (Host.argReduce reducer_argmin_f32_i32 x y u v reducesTo_S18432x1024_S18432_d1 h_S_ j).1),
    TRef.quaternary (TRef.of (T := ⟨S18432x1024, .f32⟩) main_v26) (TRef.of (T := ⟨S18432x1024, .i32⟩) main_call1_v0) (TRef.of (T := ⟨S_, .f32⟩) main_call1_cst) (TRef.of (T := ⟨S_, .i32⟩) main_call1_c) (TRef.of (T := ⟨S18432, .i32⟩) main_v27) (fun x y u v j => (Host.argReduce reducer_argmin_f32_i32 x y u v reducesTo_S18432x1024_S18432_d1 h_S_ j).2) ]

/-- The codebook rows at those indices. -/
abbrev opsD : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S18432, .i32⟩) main_call2_v0) (broadcastInDim S18432 ![] bcast_S_S18432),
    TRef.binary (TRef.of (T := ⟨S18432, .i32⟩) main_v27) (TRef.of (T := ⟨S18432, .i32⟩) main_call2_v0) (TRef.of (T := ⟨S18432, .i1⟩) main_call2_v1) (cmpi .slt),
    TRef.nullary (TRef.of (T := ⟨S_, .i32⟩) main_call2_c_0) (constantI S_ 32 1024#32),
    TRef.unary (TRef.of (T := ⟨S_, .i32⟩) main_call2_c_0) (TRef.of (T := ⟨S18432, .i32⟩) main_call2_v2) (broadcastInDim S18432 ![] bcast_S_S18432),
    TRef.binary (TRef.of (T := ⟨S18432, .i32⟩) main_v27) (TRef.of (T := ⟨S18432, .i32⟩) main_call2_v2) (TRef.of (T := ⟨S18432, .i32⟩) main_call2_v3) addi,
    TRef.ternary (TRef.of (T := ⟨S18432, .i1⟩) main_call2_v1) (TRef.of (T := ⟨S18432, .i32⟩) main_call2_v3) (TRef.of (T := ⟨S18432, .i32⟩) main_v27) (TRef.of (T := ⟨S18432, .i32⟩) main_call2_v4) select,
    TRef.unary (TRef.of (T := ⟨S18432, .i32⟩) main_call2_v4) (TRef.of (T := ⟨S18432x1, .i32⟩) main_call2_v5) (broadcastInDim S18432x1 ![0] bcast_S18432_S18432x1_0),
    TRef.nullary (TRef.of (T := ⟨S1, .i32⟩) main_call2_c_1) (constantI S1 32 1023#32),
    TRef.nullary (TRef.of (T := ⟨S_, .i32⟩) main_call2_c_2) (constantI S_ 32 0#32),
    TRef.unary (TRef.of (T := ⟨S_, .i32⟩) main_call2_c_2) (TRef.of (T := ⟨S18432x1, .i32⟩) main_call2_v6) (broadcastInDim S18432x1 ![] bcast_S_S18432x1),
    TRef.binary (TRef.of (T := ⟨S18432x1, .i32⟩) main_call2_v5) (TRef.of (T := ⟨S18432x1, .i32⟩) main_call2_v6) (TRef.of (T := ⟨S18432x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S18432x1, .i32⟩) main_call2_v9) (broadcastInDim S18432x1 ![0, 1] bcast_S1x1_S18432x1_0_1),
    TRef.binary (TRef.of (T := ⟨S18432x1, .i32⟩) main_call2_v5) (TRef.of (T := ⟨S18432x1, .i32⟩) main_call2_v9) (TRef.of (T := ⟨S18432x1, .i1⟩) main_call2_v10) (cmpi .sle),
    TRef.binary (TRef.of (T := ⟨S18432x1, .i1⟩) main_call2_v7) (TRef.of (T := ⟨S18432x1, .i1⟩) main_call2_v10) (TRef.of (T := ⟨S18432x1, .i1⟩) main_call2_v11) andi,
    TRef.nullary (TRef.of (T := ⟨S_, .i1⟩) main_call2_c_3) (constantI S_ 1 1#1),
    TRef.binary (TRef.of (T := ⟨S18432x1, .i1⟩) main_call2_v11) (TRef.of (T := ⟨S_, .i1⟩) main_call2_c_3) (TRef.of (T := ⟨S18432, .i1⟩) main_call2_v12) (fun x v => Host.reduce IntOp.andi x v reducesTo_S18432x1_S18432_d1 h_S_),
    TRef.binary (TRef.of (T := ⟨S1024x64, .f32⟩) main_arg1) (TRef.of (T := ⟨S18432x1, .i32⟩) main_call2_v5) (TRef.of (T := ⟨S18432x64, .f32⟩) main_call2_v13) (fun x i => Host.gather gather_S1024x64_S18432x1_S18432x64_1_0_n_n_0_1_164 x i),
    TRef.unary (TRef.of (T := ⟨S18432, .i1⟩) main_call2_v12) (TRef.of (T := ⟨S18432x64, .i1⟩) main_call2_v14) (broadcastInDim S18432x64 ![0] bcast_S18432_S18432x64_0),
    TRef.nullary (TRef.of (T := ⟨S_, .f32⟩) main_call2_cst) (constant S_ .f32 0x7FC00000#32),
    TRef.unary (TRef.of (T := ⟨S_, .f32⟩) main_call2_cst) (TRef.of (T := ⟨S18432x64, .f32⟩) main_call2_v15) (broadcastInDim S18432x64 ![] bcast_S_S18432x64),
    TRef.ternary (TRef.of (T := ⟨S18432x64, .i1⟩) main_call2_v14) (TRef.of (T := ⟨S18432x64, .f32⟩) main_call2_v13) (TRef.of (T := ⟨S18432x64, .f32⟩) main_call2_v15) (TRef.of (T := ⟨S18432x64, .f32⟩) main_v28) select,
    reshape main_v28 main_v29 (rfl : (.f32 : EltTy) = .f32) shapeCasts_S18432x64_S32x576x64 ]

/-- The three results. -/
abbrev opsE : List (HloOp τ sig (Elt F)) :=
  [ binary main_v29 main_v11 main_v30 (subf : (⟨S32x576x64, .f32⟩ : BufTy).Contents (Elt F) → (⟨S32x576x64, .f32⟩ : BufTy).Contents (Elt F) → (⟨S32x576x64, .f32⟩ : BufTy).Contents (Elt F)),
    binary main_v30 main_v30 main_v31 (mulf : (⟨S32x576x64, .f32⟩ : BufTy).Contents (Elt F) → (⟨S32x576x64, .f32⟩ : BufTy).Contents (Elt F) → (⟨S32x576x64, .f32⟩ : BufTy).Contents (Elt F)),
    nullary main_cst_5 (constant S_ .f32 0x00000000#32),
    binary main_v31 main_cst_5 main_v32 ((fun x v => Host.reduceAdd x v reducesTo_S32x576x64_S_d0_1_2 h_S_) : (⟨S32x576x64, .f32⟩ : BufTy).Contents (Elt F) → (⟨S_, .f32⟩ : BufTy).Contents (Elt F) → (⟨S_, .f32⟩ : BufTy).Contents (Elt F)),
    nullary main_cst_6 (constant S_ .f32 0x49900000#32),
    binary main_v32 main_cst_6 main_v33 (Host.divf : (⟨S_, .f32⟩ : BufTy).Contents (Elt F) → (⟨S_, .f32⟩ : BufTy).Contents (Elt F) → (⟨S_, .f32⟩ : BufTy).Contents (Elt F)),
    nullary main_cst_7 (constant S_ .f32 0x3F800000#32),
    binary main_v33 main_cst_7 main_v34 (mulf : (⟨S_, .f32⟩ : BufTy).Contents (Elt F) → (⟨S_, .f32⟩ : BufTy).Contents (Elt F) → (⟨S_, .f32⟩ : BufTy).Contents (Elt F)),
    binary main_v29 main_v11 main_v35 (subf : (⟨S32x576x64, .f32⟩ : BufTy).Contents (Elt F) → (⟨S32x576x64, .f32⟩ : BufTy).Contents (Elt F) → (⟨S32x576x64, .f32⟩ : BufTy).Contents (Elt F)),
    binary main_v11 main_v35 main_v36 (addf : (⟨S32x576x64, .f32⟩ : BufTy).Contents (Elt F) → (⟨S32x576x64, .f32⟩ : BufTy).Contents (Elt F) → (⟨S32x576x64, .f32⟩ : BufTy).Contents (Elt F)),
    reshape main_v27 main_v37 (rfl : (.i32 : EltTy) = .i32) shapeCasts_S18432_S32x576 ]

/-- @main's operations, in order (a called function's operations stand in its call's place, spelt `TRef.…`). -/
abbrev ops : List (HloOp τ sig (Elt F)) := opsA ++ (opsB ++ (opsC ++ (opsD ++ opsE)))

set_option maxRecDepth 8192 in
set_option maxHeartbeats 4000000 in
/-- The program is the sequence of its operations. -/
theorem main_eq (c : Dev nD) : main (F := F) c = seq ops := rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
set_option maxRecDepth 8192 in
/-- Each operation touches only buffers of the program. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., binary_bufs_sub .., nullary_bufs_sub .., binary_bufs_sub .., nullary_bufs_sub .., binary_bufs_sub .., nullary_bufs_sub .., binary_bufs_sub .., binary_bufs_sub .., binary_bufs_sub .., reshape_bufs_sub ..⟩

/-- The input less the mean of each row, as the variance's own computation has it. -/
def devs (x : FVec F S32x576x64 .f32) : FVec F S32x576x64 .f32 :=
  subf x (broadcastInDim S32x576x64 ![0, 1, 2] bcast_S32x576x1_S32x576x64_0_1_2 (Host.divf (broadcastInDim S32x576x1 ![0, 1] bcast_S32x576_S32x576x1_0_1 (Host.reduceAdd x (constant S_ .f32 0x00000000#32) reducesTo_S32x576x64_S32x576_d2 h_S_)) (broadcastInDim S32x576x1 ![] bcast_S_S32x576x1 (constant S_ .f32 0x42800000#32))))

/-- The variance's divisor. -/
def cnt : FVec F S_ .f32 := subf (constant S_ .f32 0x42800000#32) (sitofp .f32 (constantI S_ 32 0#32))

/-- The normalised input. -/
def xnorm (x : FVec F S32x576x64 .f32) : FVec F S32x576x64 .f32 :=
  Host.divf (subf x (broadcastInDim S32x576x64 ![0, 1, 2] bcast_S32x576x1_S32x576x64_0_1_2 (Host.divf (broadcastInDim S32x576x1 ![0, 1] bcast_S32x576_S32x576x1_0_1 (Host.reduceAdd x (constant S_ .f32 0x00000000#32) reducesTo_S32x576x64_S32x576_d2 h_S_)) (broadcastInDim S32x576x1 ![] bcast_S_S32x576x1 (constant S_ .f32 0x42800000#32))))) (broadcastInDim S32x576x64 ![0, 1, 2] bcast_S32x576x1_S32x576x64_0_1_2 (Host.sqrt (addf (select (broadcastInDim S32x576x1 ![] bcast_S_S32x576x1 (cmpf .ogt (cnt : FVec F S_ .f32) (constant S_ .f32 0x00000000#32))) (Host.divf (broadcastInDim S32x576x1 ![0, 1] bcast_S32x576_S32x576x1_0_1 (Host.reduceAdd (mulf (devs x) (devs x)) (constant S_ .f32 0x00000000#32) reducesTo_S32x576x64_S32x576_d2 h_S_)) (broadcastInDim S32x576x1 ![] bcast_S_S32x576x1 (cnt : FVec F S_ .f32))) (broadcastInDim S32x576x1 ![] bcast_S_S32x576x1 (id (constant S_ .f32 0x7FC00000#32)))) (broadcastInDim S32x576x1 ![] bcast_S_S32x576x1 (constant S_ .f32 0x3727C5AC#32)))))

/-- The table of squared distances of the rows to the codebook's rows. -/
def dists (f : FVec F S18432x64 .f32) (cb : FVec F S1024x64 .f32) : FVec F S18432x1024 .f32 :=
  addf (subf (broadcastInDim S18432x1024 ![0, 1] bcast_S18432x1_S18432x1024_0_1 (broadcastInDim S18432x1 ![0] bcast_S18432_S18432x1_0 (Host.reduceAdd (mulf f f) (constant S_ .f32 0x00000000#32) reducesTo_S18432x64_S18432_d1 h_S_))) (Host.dotGeneral dot_S18432x64_S64x1024_S18432x1024_1_0_0_1_n_n none (mulf (broadcastInDim S18432x64 ![] bcast_S_S18432x64 (constant S_ .f32 0x40000000#32)) f) (transpose S64x1024 [1, 0] cb transposes_S1024x64_S64x1024_1_0))) (broadcastInDim S18432x1024 ![0, 1] bcast_S1x1024_S18432x1024_0_1 (broadcastInDim S1x1024 ![1] bcast_S1024_S1x1024_1 (Host.reduceAdd (mulf cb cb) (constant S_ .f32 0x00000000#32) reducesTo_S1024x64_S1024_d1 h_S_)))

/-- The index of the least entry of each row. -/
def argmin (d : FVec F S18432x1024 .f32) : IVec S18432 32 :=
  fun j => (Host.argReduce reducer_argmin_f32_i32 d (iotaInDim S18432x1024 32 1) (constant S_ .f32 0x7F800000#32) (constantI S_ 32 0#32) reducesTo_S18432x1024_S18432_d1 h_S_ j).2

/-- The indices as the take has them: a negative one moved up by the codebook's length. -/
def wrapped (i : IVec S18432 32) : IVec S18432x1 32 :=
  broadcastInDim S18432x1 ![0] bcast_S18432_S18432x1_0 (select (cmpi .slt i (broadcastInDim S18432 ![] bcast_S_S18432 (constantI S_ 32 0#32))) (addi i (broadcastInDim S18432 ![] bcast_S_S18432 (constantI S_ 32 1024#32))) i)

/-- The codebook's rows at the indices. -/
def rowsAt (i : IVec S18432 32) (cb : FVec F S1024x64 .f32) : FVec F S32x576x64 .f32 :=
  shapeCast _ (select (broadcastInDim S18432x64 ![0] bcast_S18432_S18432x64_0 (Host.reduce IntOp.andi (andi (cmpi .sge (wrapped i) (broadcastInDim S18432x1 ![] bcast_S_S18432x1 (constantI S_ 32 0#32))) (cmpi .sle (wrapped i) (broadcastInDim S18432x1 ![0, 1] bcast_S1x1_S18432x1_0_1 (broadcastInDim S1x1 ![1] bcast_S1_S1x1_1 (constantI S1 32 1023#32))))) (constantI S_ 1 1#1) reducesTo_S18432x1_S18432_d1 h_S_)) (Host.gather gather_S1024x64_S18432x1_S18432x64_1_0_n_n_0_1_164 cb (wrapped i)) (broadcastInDim S18432x64 ![] bcast_S_S18432x64 (constant S_ .f32 0x7FC00000#32))) shapeCasts_S18432x64_S32x576x64

/-- The mean squared difference. -/
def lossOf (q xn : FVec F S32x576x64 .f32) : FVec F S_ .f32 :=
  mulf (Host.divf (Host.reduceAdd (mulf (subf q xn) (subf q xn)) (constant S_ .f32 0x00000000#32) reducesTo_S32x576x64_S_d0_1_2 h_S_) (constant S_ .f32 0x49900000#32)) (constant S_ .f32 0x3F800000#32)

variable (V : Valuation τ sig (Elt F))

/-- What `main_v11` holds after this stretch. -/
theorem readA_main_v11 : after opsA V (Proc.devRef .tc main_v11) = xnorm (V (Proc.devRef .tc main_arg0)) :=
  by simp only [opsA, TRef.binary, TRef.nullary, TRef.ternary, TRef.quaternary, TRef.unary, TRef.toBuf, TRef.ofBuf, cast_eq]; after_results_simp <;> rfl

/-- What `main_v12` holds after this stretch. -/
theorem readA_main_v12 : after opsA V (Proc.devRef .tc main_v12) = shapeCast S18432x64 (xnorm (V (Proc.devRef .tc main_arg0))) shapeCasts_S32x576x64_S18432x64 :=
  by simp only [opsA, TRef.binary, TRef.nullary, TRef.ternary, TRef.quaternary, TRef.unary, TRef.toBuf, TRef.ofBuf, cast_eq]; after_results_simp <;> rfl

/-- What `main_arg0` holds after this stretch. -/
theorem readA_main_arg0 : after opsA V (Proc.devRef .tc main_arg0) = V (Proc.devRef .tc main_arg0) :=
  by simp only [opsA, TRef.binary, TRef.nullary, TRef.ternary, TRef.quaternary, TRef.unary, TRef.toBuf, TRef.ofBuf, cast_eq]; after_results_simp <;> rfl

/-- What `main_arg1` holds after this stretch. -/
theorem readA_main_arg1 : after opsA V (Proc.devRef .tc main_arg1) = V (Proc.devRef .tc main_arg1) :=
  by simp only [opsA, TRef.binary, TRef.nullary, TRef.ternary, TRef.quaternary, TRef.unary, TRef.toBuf, TRef.ofBuf, cast_eq]; after_results_simp <;> rfl

/-- What `main_v26` holds after this stretch. -/
theorem readB_main_v26 : after opsB V (Proc.devRef .tc main_v26) = dists (V (Proc.devRef .tc main_v12)) (V (Proc.devRef .tc main_arg1)) :=
  by simp only [opsB, TRef.binary, TRef.nullary, TRef.ternary, TRef.quaternary, TRef.unary, TRef.toBuf, TRef.ofBuf, cast_eq]; after_results_simp <;> rfl

/-- What `main_v11` holds after this stretch. -/
theorem readB_main_v11 : after opsB V (Proc.devRef .tc main_v11) = V (Proc.devRef .tc main_v11) :=
  by simp only [opsB, TRef.binary, TRef.nullary, TRef.ternary, TRef.quaternary, TRef.unary, TRef.toBuf, TRef.ofBuf, cast_eq]; after_results_simp <;> rfl

/-- What `main_arg0` holds after this stretch. -/
theorem readB_main_arg0 : after opsB V (Proc.devRef .tc main_arg0) = V (Proc.devRef .tc main_arg0) :=
  by simp only [opsB, TRef.binary, TRef.nullary, TRef.ternary, TRef.quaternary, TRef.unary, TRef.toBuf, TRef.ofBuf, cast_eq]; after_results_simp <;> rfl

/-- What `main_arg1` holds after this stretch. -/
theorem readB_main_arg1 : after opsB V (Proc.devRef .tc main_arg1) = V (Proc.devRef .tc main_arg1) :=
  by simp only [opsB, TRef.binary, TRef.nullary, TRef.ternary, TRef.quaternary, TRef.unary, TRef.toBuf, TRef.ofBuf, cast_eq]; after_results_simp <;> rfl

/-- What `main_v27` holds after this stretch. -/
theorem readC_main_v27 : after opsC V (Proc.devRef .tc main_v27) = argmin (V (Proc.devRef .tc main_v26)) :=
  by simp only [opsC, TRef.binary, TRef.nullary, TRef.ternary, TRef.quaternary, TRef.unary, TRef.toBuf, TRef.ofBuf, cast_eq]; after_results_simp <;> rfl

/-- What `main_v11` holds after this stretch. -/
theorem readC_main_v11 : after opsC V (Proc.devRef .tc main_v11) = V (Proc.devRef .tc main_v11) :=
  by simp only [opsC, TRef.binary, TRef.nullary, TRef.ternary, TRef.quaternary, TRef.unary, TRef.toBuf, TRef.ofBuf, cast_eq]; after_results_simp <;> rfl

/-- What `main_arg0` holds after this stretch. -/
theorem readC_main_arg0 : after opsC V (Proc.devRef .tc main_arg0) = V (Proc.devRef .tc main_arg0) :=
  by simp only [opsC, TRef.binary, TRef.nullary, TRef.ternary, TRef.quaternary, TRef.unary, TRef.toBuf, TRef.ofBuf, cast_eq]; after_results_simp <;> rfl

/-- What `main_arg1` holds after this stretch. -/
theorem readC_main_arg1 : after opsC V (Proc.devRef .tc main_arg1) = V (Proc.devRef .tc main_arg1) :=
  by simp only [opsC, TRef.binary, TRef.nullary, TRef.ternary, TRef.quaternary, TRef.unary, TRef.toBuf, TRef.ofBuf, cast_eq]; after_results_simp <;> rfl

/-- What `main_v29` holds after this stretch. -/
theorem readD_main_v29 : after opsD V (Proc.devRef .tc main_v29) = rowsAt (V (Proc.devRef .tc main_v27)) (V (Proc.devRef .tc main_arg1)) :=
  by simp only [opsD, TRef.binary, TRef.nullary, TRef.ternary, TRef.quaternary, TRef.unary, TRef.toBuf, TRef.ofBuf, cast_eq]; after_results_simp <;> rfl

/-- What `main_v27` holds after this stretch. -/
theorem readD_main_v27 : after opsD V (Proc.devRef .tc main_v27) = V (Proc.devRef .tc main_v27) :=
  by simp only [opsD, TRef.binary, TRef.nullary, TRef.ternary, TRef.quaternary, TRef.unary, TRef.toBuf, TRef.ofBuf, cast_eq]; after_results_simp <;> rfl

/-- What `main_v11` holds after this stretch. -/
theorem readD_main_v11 : after opsD V (Proc.devRef .tc main_v11) = V (Proc.devRef .tc main_v11) :=
  by simp only [opsD, TRef.binary, TRef.nullary, TRef.ternary, TRef.quaternary, TRef.unary, TRef.toBuf, TRef.ofBuf, cast_eq]; after_results_simp <;> rfl

/-- What `main_arg0` holds after this stretch. -/
theorem readD_main_arg0 : after opsD V (Proc.devRef .tc main_arg0) = V (Proc.devRef .tc main_arg0) :=
  by simp only [opsD, TRef.binary, TRef.nullary, TRef.ternary, TRef.quaternary, TRef.unary, TRef.toBuf, TRef.ofBuf, cast_eq]; after_results_simp <;> rfl

/-- What `main_arg1` holds after this stretch. -/
theorem readD_main_arg1 : after opsD V (Proc.devRef .tc main_arg1) = V (Proc.devRef .tc main_arg1) :=
  by simp only [opsD, TRef.binary, TRef.nullary, TRef.ternary, TRef.quaternary, TRef.unary, TRef.toBuf, TRef.ofBuf, cast_eq]; after_results_simp <;> rfl

/-- What `main_v36` holds after this stretch. -/
theorem readE_main_v36 : after opsE V (Proc.devRef .tc main_v36) = addf (V (Proc.devRef .tc main_v11) : FVec F S32x576x64 .f32) (subf (V (Proc.devRef .tc main_v29) : FVec F S32x576x64 .f32) (V (Proc.devRef .tc main_v11))) :=
  by simp only [opsE, TRef.binary, TRef.nullary, TRef.ternary, TRef.quaternary, TRef.unary, TRef.toBuf, TRef.ofBuf, cast_eq]; after_results_simp <;> rfl

/-- What `main_v37` holds after this stretch. -/
theorem readE_main_v37 : after opsE V (Proc.devRef .tc main_v37) = shapeCast S32x576 (V (Proc.devRef .tc main_v27) : IVec S18432 32) shapeCasts_S18432_S32x576 :=
  by simp only [opsE, TRef.binary, TRef.nullary, TRef.ternary, TRef.quaternary, TRef.unary, TRef.toBuf, TRef.ofBuf, cast_eq]; after_results_simp <;> rfl

/-- What `main_v34` holds after this stretch. -/
theorem readE_main_v34 : after opsE V (Proc.devRef .tc main_v34) = lossOf (V (Proc.devRef .tc main_v29)) (V (Proc.devRef .tc main_v11)) :=
  by simp only [opsE, TRef.binary, TRef.nullary, TRef.ternary, TRef.quaternary, TRef.unary, TRef.toBuf, TRef.ofBuf, cast_eq]; after_results_simp <;> rfl

/-- What `main_arg0` holds after this stretch. -/
theorem readE_main_arg0 : after opsE V (Proc.devRef .tc main_arg0) = V (Proc.devRef .tc main_arg0) :=
  by simp only [opsE, TRef.binary, TRef.nullary, TRef.ternary, TRef.quaternary, TRef.unary, TRef.toBuf, TRef.ofBuf, cast_eq]; after_results_simp <;> rfl

/-- What `main_arg1` holds after this stretch. -/
theorem readE_main_arg1 : after opsE V (Proc.devRef .tc main_arg1) = V (Proc.devRef .tc main_arg1) :=
  by simp only [opsE, TRef.binary, TRef.nullary, TRef.ternary, TRef.quaternary, TRef.unary, TRef.toBuf, TRef.ofBuf, cast_eq]; after_results_simp <;> rfl

/-- The normalised input's rows. -/
abbrev flat (x : FVec F S32x576x64 .f32) : FVec F S18432x64 .f32 := shapeCast S18432x64 (xnorm x) shapeCasts_S32x576x64_S18432x64

/-- The index the reference takes for each row. -/
abbrev idxs (x : FVec F S32x576x64 .f32) (cb : FVec F S1024x64 .f32) : IVec S18432 32 := argmin (dists (flat x) cb)

/-- The codebook rows it takes. -/
abbrev quant (x : FVec F S32x576x64 .f32) (cb : FVec F S1024x64 .f32) : FVec F S32x576x64 .f32 := rowsAt (idxs x cb) cb

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = (addf (xnorm (m ((c.tc : Thread nD τ).loc main_arg0))) (subf (quant (m ((c.tc : Thread nD τ).loc main_arg0)) (m ((c.tc : Thread nD τ).loc main_arg1))) (xnorm (m ((c.tc : Thread nD τ).loc main_arg0)))) : FVec F S32x576x64 .f32)
      ∧ r.2.mem ((c.tc : Thread nD τ).loc main_v37) = (shapeCast S32x576 (idxs (m ((c.tc : Thread nD τ).loc main_arg0)) (m ((c.tc : Thread nD τ).loc main_arg1))) shapeCasts_S18432_S32x576 : IVec S32x576 32)
      ∧ r.2.mem ((c.tc : Thread nD τ).loc main_v34) = (lossOf (quant (m ((c.tc : Thread nD τ).loc main_arg0)) (m ((c.tc : Thread nD τ).loc main_arg1))) (xnorm (m ((c.tc : Thread nD τ).loc main_arg0))) : FVec F S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v36).trans (by
        rw [after_append, after_append, after_append, after_append, readE_main_v36, readD_main_v29, readD_main_v11, readC_main_v27,
          readC_main_v11, readC_main_arg1, readB_main_v26, readB_main_v11, readB_main_arg1, readA_main_v12, readA_main_v11, readA_main_arg1]),
      (h c main_v37).trans (by
        rw [after_append, after_append, after_append, after_append, readE_main_v37, readD_main_v27, readC_main_v27,
          readB_main_v26, readA_main_v12, readA_main_arg1]),
      (h c main_v34).trans (by
        rw [after_append, after_append, after_append, after_append, readE_main_v34, readD_main_v29, readD_main_v11, readC_main_v27,
          readC_main_v11, readC_main_arg1, readB_main_v26, readB_main_v11, readB_main_arg1, readA_main_v12, readA_main_v11, readA_main_arg1]),
      (h c main_arg0).trans (by
        rw [after_append, after_append, after_append, after_append, readE_main_arg0, readD_main_arg0, readC_main_arg0, readB_main_arg0, readA_main_arg0]),
      (h c main_arg1).trans (by
        rw [after_append, after_append, after_append, after_append, readE_main_arg1, readD_main_arg1, readC_main_arg1, readB_main_arg1, readA_main_arg1])⟩)
    (run_seq scopedRefs_eq scopedSems_eq defs main (fun _ => ops) main_eq (fun _ => ops_sub) m ρ)

end Cert.ReferenceIdeal.Value

end
-- ==== Proof.RefArgmin.lean ====
/- The reference program's search for the least distance of a row, over the extended reals. -/
module

public import proofs.«01_k».proof.Proof.RefRun
public import proofs.«01_k».proof.Proof.Vq
public import Idealize.ShloMosaic.Lib.Pointwise
public import Idealize.ShloMosaic.PureOps.Ideal.Laws

@[expose] public section

set_option maxRecDepth 16384

noncomputable section

namespace Cert.ReferenceIdeal.Value

open Cert Cert.ReferenceIdeal Cert.ReferenceIdeal.Gen Idealize.ShloMosaic

/-! ## The index of the least -/

/-- `p` comes no later than `q`: by value, then by index. -/
def Le (p q : EReal × BitVec 32) : Prop := p.1 < q.1 ∨ (p.1 = q.1 ∧ p.2.toInt ≤ q.2.toInt)

/-- One step of the reference's search. -/
theorem step_eq (a b : EReal × BitVec 32) : reducer_argmin_f32_i32 (F := Ideal) a b
    = (if a.1 < b.1 then a.1 else b.1, if a.1 < b.1 ∨ (a.1 = b.1 ∧ a.2.toInt < b.2.toInt) then a.2 else b.2) := by
  have hs : ∀ p q : BitVec 32, IntOp.cmpi .slt p q = if p.toInt < q.toInt then 1#1 else 0#1 := fun p q => by
    simp only [IntOp.cmpi, BitVec.slt]
    by_cases h : p.toInt < q.toInt <;> simp [h]
  unfold reducer_argmin_f32_i32
  simp only [Ideal.cmpf_def, Ideal.cmp, hs, Scalar.select, IntOp.ori, IntOp.andi]
  by_cases h : a.1 < b.1 <;> by_cases e : a.1 = b.1 <;> by_cases s : a.2.toInt < b.2.toInt <;> simp [h, e, s]

/-- What comes no later than both of two pairs comes no later than the one a step keeps. -/
theorem step_le {p a b : EReal × BitVec 32} (ha : Le p a) (hb : Le p b) : Le p (reducer_argmin_f32_i32 (F := Ideal) a b) := by
  rw [step_eq]
  unfold Le at *
  by_cases h : a.1 < b.1
  · simpa [h] using ha
  · by_cases e : a.1 = b.1 ∧ a.2.toInt < b.2.toInt
    · simp only [h, false_or, if_false, if_pos e]
      rcases ha with ha | ha
      · exact Or.inl (e.1 ▸ ha)
      · exact Or.inr ⟨ha.1.trans e.1, ha.2⟩
    · simpa only [h, false_or, if_false, if_neg e] using hb

/-- A step keeps its first pair if that comes no later than the second. -/
theorem step_left {p b : EReal × BitVec 32} (hb : Le p b) : reducer_argmin_f32_i32 (F := Ideal) p b = p := by
  rw [step_eq]
  rcases hb with h | ⟨e, h⟩
  · simp [h]
  · rcases lt_or_eq_of_le h with h' | h'
    · simp [e, h']
      rw [← e]
    · have := BitVec.eq_of_toInt_eq h'
      rw [show b = p from Prod.ext e.symm this.symm]
      simp

/-- A step keeps its second pair if that comes no later than the first. -/
theorem step_right {p a : EReal × BitVec 32} (ha : Le p a) : reducer_argmin_f32_i32 (F := Ideal) a p = p := by
  rw [step_eq]
  rcases ha with h | ⟨e, h⟩
  · rw [if_neg (not_lt_of_gt h), if_neg]
    rintro (h' | ⟨h', -⟩)
    · exact lt_asymm h h'
    · exact h.ne h'.symm
  · rw [if_neg (by rw [e]; exact lt_irrefl _), if_neg]
    rintro (h' | ⟨-, h'⟩)
    · exact h'.ne e.symm
    · omega

/-- The search ends at the pair that comes no later than any other. -/
theorem search_eq (p : EReal × BitVec 32) : ∀ (L : List (EReal × BitVec 32)) (a : EReal × BitVec 32), Le p a →
    (∀ q ∈ L, Le p q) → (a = p ∨ p ∈ L) → L.foldl (reducer_argmin_f32_i32 (F := Ideal)) a = p := by
  intro L
  induction L with
  | nil => intro a _ _ h; simpa using h
  | cons b L ih =>
    intro a ha hL h
    rw [List.foldl_cons]
    have hb := hL b (List.mem_cons_self ..)
    refine ih _ (step_le ha hb) (fun q hq => hL q (List.mem_cons_of_mem _ hq)) ?_
    rcases h with rfl | h
    · exact Or.inl (step_left hb)
    · rcases List.mem_cons.mp h with rfl | h
      · exact Or.inl (step_right ha)
      · exact Or.inr h

/-- The pairs searched for an index of the result: those at the operand's indices over it. -/
theorem mem_fiber {s t : Shape} {axes : List (Fin s.rank)} {α β : Type} (x : s.Idx → α) (y : s.Idx → β)
    (h : s.ReducesTo axes t) (j : t.Idx) (q : α × β) :
    q ∈ Host.argReduceFiber x y h j ↔ ∃ i, h.drop i = j ∧ (x i, y i) = q := by
  unfold Host.argReduceFiber
  rw [List.mem_map]
  constructor
  · rintro ⟨n, hn, rfl⟩
    exact ⟨_, of_decide_eq_true (List.mem_filter.mp hn).2, rfl⟩
  · rintro ⟨i, hi, rfl⟩
    refine ⟨s.rowMajor i, List.mem_filter.mpr ⟨List.mem_finRange _, ?_⟩, ?_⟩
    · rw [Equiv.symm_apply_apply]
      exact decide_eq_true hi
    · rw [Equiv.symm_apply_apply]

/-- The reference's search over an axis ends at the pair, among those over the index, that comes no later than any. -/
theorem argReduce_search {s t u : Shape} {axes : List (Fin s.rank)} (x : FVec Ideal s .f32) (y : IVec s 32)
    (ix : u.Idx → EReal) (iy : u.Idx → BitVec 32) (h : s.ReducesTo axes t) (hu : 0 < u.numel) (j : t.Idx) (i₀ : s.Idx)
    (hi₀ : h.drop i₀ = j) (hinit : Le (x i₀, y i₀) (ix (Shape.Idx.first hu), iy (Shape.Idx.first hu)))
    (hall : ∀ i, h.drop i = j → Le (x i₀, y i₀) (x i, y i)) :
    Host.argReduce (reducer_argmin_f32_i32 (F := Ideal)) x y ix iy h hu j = (x i₀, y i₀) := by
  rw [Ideal.argReduce_eq_reduce2, Host.reduce2_eq_foldl_fiber]
  refine search_eq _ _ _ hinit ?_ (Or.inr ((mem_fiber x y h j _).mpr ⟨i₀, hi₀, rfl⟩))
  rintro q hq
  obtain ⟨i, hi, rfl⟩ := (mem_fiber x y h j q).mp hq
  exact hall i hi

/-- Words of small naturals compare as the naturals do. -/
theorem toInt_le {a b : ℕ} (ha : a < 1024) (hb : b < 1024) (h : a ≤ b) :
    (BitVec.ofNat 32 a).toInt ≤ (BitVec.ofNat 32 b).toInt := by
  simp only [BitVec.toInt, BitVec.toNat_ofNat]
  rw [Nat.mod_eq_of_lt (by omega), Nat.mod_eq_of_lt (by omega), if_pos (by omega), if_pos (by omega)]
  exact_mod_cast h

/-- The search along the rows of a table whose second operand counts the columns: the first column at which the row is
    least. -/
theorem argReduce_row {A : ℕ} {u : Shape} {axes : List (Fin 2)} (d : FVec Ideal ⟨2, ![A, 1024]⟩ .f32)
    (y : IVec ⟨2, ![A, 1024]⟩ 32) (ix : u.Idx → EReal) (iy : u.Idx → BitVec 32)
    (h : Shape.ReducesTo ⟨2, ![A, 1024]⟩ axes ⟨1, ![A]⟩) (hu : 0 < u.numel) (R : Fin A) (e : Fin 1024 → EReal)
    (hdrop : ∀ r n, h.drop (ix2 r n) = ix1 r) (hy : ∀ r n, y (ix2 r n) = BitVec.ofNat 32 n.val)
    (hix : ix (Shape.Idx.first hu) = ⊤) (he : ∀ n, d (ix2 R n) = e n) (hd : ∀ n, e n ≠ ⊤) :
    (Host.argReduce (reducer_argmin_f32_i32 (F := Ideal)) d y ix iy h hu (ix1 R)).2 = BitVec.ofNat 32 (Vq.amin e).val := by
  obtain ⟨hmin, hlt⟩ := Vq.amin_spec e
  generalize Vq.amin e = N at hmin hlt ⊢
  rw [argReduce_search d y ix iy h hu (ix1 R) (ix2 R N) (hdrop R N)]
  · exact hy R N
  · refine Or.inl ?_
    rw [he, hix]
    exact lt_top_iff_ne_top.mpr (hd N)
  · intro i hi
    obtain ⟨r, k, rfl⟩ : ∃ (r : Fin A) (k : Fin 1024), i = ix2 r k := ⟨i 0, i 1, eq_ix2 (n0 := A) (n1 := 1024) i⟩
    rw [hdrop] at hi
    obtain rfl : r = R := congrFun hi 0
    rw [hy, hy, he, he]
    rcases lt_or_eq_of_le (hmin k) with h | h
    · exact Or.inl h
    · refine Or.inr ⟨h, toInt_le N.isLt k.isLt ?_⟩
      exact le_of_not_gt fun hk => (hlt k hk).ne h

/-- The search along the codebook leaves the row number. -/
theorem drop_ix2 (R : Fin 18432) (n : Fin 1024) : reducesTo_S18432x1024_S18432_d1.drop (ix2 R n) = ix1 R := by
  funext a
  fin_cases a
  rfl

/-- The table of candidate indices holds the column number. -/
theorem iota_eq (r : Fin 18432) (k : Fin 1024) : iotaInDim S18432x1024 32 1 (ix2 r k) = BitVec.ofNat 32 k.val := by
  pointwise

/-- The search starts from the top element. -/
theorem init_eq (i : S_.Idx) : constant (F := Ideal) S_ .f32 0x7F800000#32 i = (⊤ : EReal) := Vq.cinf

/-- The reference's index search, spelt as the search along the rows. -/
theorem argmin_def (d : FVec Ideal S18432x1024 .f32) : argmin d
    = fun j => (Host.argReduce reducer_argmin_f32_i32 d (iotaInDim S18432x1024 32 1) (constant S_ .f32 0x7F800000#32)
      (constantI S_ 32 0#32) reducesTo_S18432x1024_S18432_d1 h_S_ j).2 := rfl

/-- The reference's index of the least entry of a row of reals is the first one. -/
theorem argmin_eq (d : FVec Ideal S18432x1024 .f32) (R : Fin 18432) (e : Fin 1024 → EReal) (he : ∀ n, d (ix2 R n) = e n)
    (hd : ∀ n, e n ≠ ⊤) : argmin d (ix1 R) = BitVec.ofNat 32 (Vq.amin e).val :=
  (congrFun (argmin_def d) (ix1 R)).trans
    (argReduce_row (A := 18432) d (iotaInDim S18432x1024 32 1) (constant (F := Ideal) S_ .f32 0x7F800000#32)
      (constantI S_ 32 0#32) reducesTo_S18432x1024_S18432_d1 h_S_ R e drop_ix2 iota_eq (init_eq _) he hd)

end Cert.ReferenceIdeal.Value

end
-- ==== Proof.RefPure.lean ====
/- The reference program's stages at an index, over the extended reals: the normalised row, the distances, the index of
   the least of them, the codebook's row there, and the loss. -/
module

public import proofs.«01_k».proof.Proof.RefArgmin
public import Idealize.ShloMosaic.Lib.Pointwise
public import Idealize.ShloMosaic.Lib.ReduceAll
public import Idealize.ShloMosaic.Lib.Routing.Ops
public import Idealize.ShloMosaic.PureOps.Ideal.Laws

@[expose] public section

set_option maxRecDepth 16384

noncomputable section

namespace Cert.ReferenceIdeal.Value

open Cert Cert.ReferenceIdeal Cert.ReferenceIdeal.Gen Idealize.ShloMosaic

/-! ## The normalised row -/

/-- The variance's divisor is 64. -/
theorem cnt_eq (i : S_.Idx) : (cnt : FVec Ideal S_ .f32) i = ((64 : ℝ) : EReal) := by
  pointwise [cnt]
  rw [Vq.c64]
  show ((64 : ℝ) : EReal) - (((0#32 : BitVec 32).toInt : ℝ) : EReal) = _
  simp

/-- The reference's normalised input at an index: the normalised row at its coordinate. -/
theorem xnorm_eq (x : FVec Ideal S32x576x64 .f32) (b : Fin 32) (n : Fin 576) (k : Fin 64) :
    xnorm x (ix3 b n k) = Vq.nrm (fun k => x (ix3 b n k)) k := by
  pointwise [xnorm, devs]
  rw [cnt_eq, if_pos (by exact_mod_cast (by norm_num : (0 : ℝ) < 64)), ← Vq.c64]
  rfl

/-! ## The distances -/

/-- The reference's table of distances over rows of reals: the squared distances. -/
theorem dists_eq (f : FVec Ideal S18432x64 .f32) (cb : FVec Ideal S1024x64 .f32) (R : Fin 18432) (n : Fin 1024)
    (X C : Fin 64 → ℝ) (hf : ∀ k, f (ix2 R k) = (X k : EReal)) (hC : ∀ k, cb (ix2 n k) = (C k : EReal)) :
    dists f cb (ix2 R n) = (Vq.sqd X C : EReal) := by
  pointwise [dists]
  simp only [hf, hC]
  exact Vq.sqd_of_mul_two X C

/-! ## The codebook's row -/

/-- The word of a small natural is not negative. -/
theorem select_small : ∀ N : Fin 1024, Scalar.select (IntOp.cmpi .slt (BitVec.ofNat 32 N.val) 0#32)
    (IntOp.addi (BitVec.ofNat 32 N.val) 1024#32) (BitVec.ofNat 32 N.val) = BitVec.ofNat 32 N.val := by decide +kernel

/-- The word of a small natural is in range. -/
theorem small_in_range : ∀ N : Fin 1024, IntOp.andi (IntOp.andi (IntOp.cmpi .sge (BitVec.ofNat 32 N.val) 0#32)
    (IntOp.cmpi .sle (BitVec.ofNat 32 N.val) 1023#32)) 1#1 = 1#1 := by decide +kernel

/-- An index in range is taken as it is. -/
theorem wrapped_eq (i : IVec S18432 32) (R : Fin 18432) (N : Fin 1024) (h : i (ix1 R) = BitVec.ofNat 32 N.val) :
    wrapped i (ix2 R 0) = BitVec.ofNat 32 N.val := by
  pointwise [wrapped]
  rw [h]
  exact select_small N

/-- The row taken at an index in range is the codebook's. -/
theorem rowsAt_eq (i : IVec S18432 32) (cb : FVec Ideal S1024x64 .f32) (b : Fin 32) (n : Fin 576) (k : Fin 64) (N : Fin 1024)
    (h : i (ix1 ⟨b.val * 576 + n.val, by omega⟩) = BitVec.ofNat 32 N.val) :
    rowsAt i cb (ix3 b n k) = cb (ix2 N k) := by
  have hw := wrapped_eq i _ N h
  pointwise [rowsAt]
  rw [show (Finset.univ : Finset (Fin 1)) = {0} from rfl, Finset.fold_singleton, hw, small_in_range, Scalar.select, if_pos (show (1#1 : BitVec 1) = 1 from rfl)]
  exact Routing.gather_row _ rfl rfl rfl rfl rfl cb (wrapped i) _ k N hw (by norm_num)

/-! ## The loss -/

/-- The loss is the sum of the squared differences over their number. -/
theorem lossOf_eq (q xn : FVec Ideal S32x576x64 .f32) (i : S_.Idx) : lossOf q xn i
    = Ideal.div (∑ b : Fin 32, ∑ n : Fin 576, ∑ k : Fin 64, (q (ix3 b n k) - xn (ix3 b n k)) * (q (ix3 b n k) - xn (ix3 b n k)))
      (Ideal.ofBits .f32 0x49900000#32) := by
  pointwise [lossOf]

/-! ## The results -/

section Results
variable {x : FVec Ideal S32x576x64 .f32} {cb : FVec Ideal S1024x64 .f32} {C : Fin 1024 → Fin 64 → ℝ}
  (hC : ∀ n k, cb (ix2 n k) = (C n k : EReal))

/-- The nearest codeword of the input row at `b, n`. -/
abbrev near (x : FVec Ideal S32x576x64 .f32) (C : Fin 1024 → Fin 64 → ℝ) (b : Fin 32) (n : Fin 576) : Fin 1024 :=
  Vq.amin (Vq.D (fun k => x (ix3 b n k)) C)

/-- An entry of the input with its two leading axes taken as one. -/
theorem rows_apply (v : FVec Ideal S32x576x64 .f32) (b : Fin 32) (n : Fin 576) (k : Fin 64) :
    shapeCast S18432x64 v shapeCasts_S32x576x64_S18432x64 (ix2 ⟨b.val * 576 + n.val, by omega⟩ k) = v (ix3 b n k) := by
  pointwise

/-- An entry of a list of indices laid out over the two leading axes. -/
theorem ids_apply (v : IVec S18432 32) (b : Fin 32) (n : Fin 576) :
    shapeCast S32x576 v shapeCasts_S18432_S32x576 (ix2 b n) = v (ix1 ⟨b.val * 576 + n.val, by omega⟩) := by
  pointwise

/-- The sum of an array and a difference, entry by entry. -/
theorem back_apply (a q : FVec Ideal S32x576x64 .f32) (i : S32x576x64.Idx) : addf a (subf q a) i = a i + (q i - a i) := rfl

/-- The rows the reference compares with the codebook are the normalised rows of reals. -/
theorem flat_eq (x : FVec Ideal S32x576x64 .f32) (b : Fin 32) (n : Fin 576) (k : Fin 64) :
    flat x (ix2 ⟨b.val * 576 + n.val, by omega⟩ k) = (Vq.X (fun k => x (ix3 b n k)) k : EReal) := by
  rw [← Vq.nrm_eq, ← xnorm_eq]
  exact rows_apply (xnorm x) b n k

include hC

/-- The index of a row is its nearest codeword's. -/
theorem idxs_eq (b : Fin 32) (n : Fin 576) :
    idxs x cb (ix1 ⟨b.val * 576 + n.val, by omega⟩) = BitVec.ofNat 32 (near x C b n).val := by
  refine argmin_eq (dists (flat x) cb) _ (Vq.D (fun k => x (ix3 b n k)) C) (fun N => ?_) (fun N => ?_)
  · rw [dists_eq (flat x) cb _ N (Vq.X fun k => x (ix3 b n k)) (C N) (flat_eq x b n) (hC N), Vq.D]
  · rw [Vq.D]
    exact EReal.coe_ne_top _

/-- The quantised row is its nearest codeword. -/
theorem quant_eq (b : Fin 32) (n : Fin 576) (k : Fin 64) : quant x cb (ix3 b n k) = (C (near x C b n) k : EReal) := by
  rw [quant, rowsAt_eq (idxs x cb) cb b n k (near x C b n) (idxs_eq hC b n)]
  exact hC _ _

/-- The first result: the quantised rows, the normalised row taken off and put back. -/
theorem result0 (b : Fin 32) (n : Fin 576) (k : Fin 64) :
    addf (xnorm x) (subf (quant x cb) (xnorm x)) (ix3 b n k) = (C (near x C b n) k : EReal) := by
  rw [back_apply, quant_eq hC, xnorm_eq, Vq.nrm_eq, ← EReal.coe_sub, ← EReal.coe_add]
  exact congrArg Real.toEReal (by ring)

/-- The second result: the indices. -/
theorem result1 (b : Fin 32) (n : Fin 576) :
    shapeCast S32x576 (idxs x cb) shapeCasts_S18432_S32x576 (ix2 b n) = BitVec.ofNat 32 (near x C b n).val := by
  rw [ids_apply, idxs_eq hC]

/-- The squared differences of a row add up to its squared distance. -/
theorem sum_row (b : Fin 32) (n : Fin 576) :
    (∑ k : Fin 64, (quant x cb (ix3 b n k) - xnorm x (ix3 b n k)) * (quant x cb (ix3 b n k) - xnorm x (ix3 b n k)))
      = (Vq.sqd (Vq.X fun k => x (ix3 b n k)) (C (near x C b n)) : EReal) := by
  unfold Vq.sqd
  rw [Vq.coe_sum]
  refine Finset.sum_congr rfl fun k _ => ?_
  rw [quant_eq hC, xnorm_eq, Vq.nrm_eq, ← EReal.coe_sub, ← EReal.coe_mul]
  exact congrArg Real.toEReal (by ring)

/-- The third result: the mean of the squared differences. -/
theorem result2 (i : S_.Idx) : lossOf (quant x cb) (xnorm x) i
    = (((∑ b : Fin 32, ∑ n : Fin 576, Vq.sqd (Vq.X fun k => x (ix3 b n k)) (C (near x C b n))) / 1179648 : ℝ) : EReal) := by
  rw [lossOf_eq]
  simp only [sum_row hC]
  simp only [← Vq.coe_sum]
  rw [Vq.cN, Vq.div_coe _ _ (by norm_num)]

end Results

end Cert.ReferenceIdeal.Value

end
-- ==== Proof.Algebraic.lean ====
/- The two programs' results are the same: the nearest codewords, their indices, and the mean squared difference. -/
module

public import proofs.«01_k».proof.Defs
public import proofs.«01_k».proof.Proof.KerRun
public import proofs.«01_k».proof.Proof.RefPure
public import proofs.«01_k».proof.Proof.Gen.Pre_finite_codebook
public import Idealize.ShloMosaic.PureOps.IdealRules

@[expose] public section

set_option maxRecDepth 16384

noncomputable section

namespace Cert.Algebraic

open Cert Idealize.ShloMosaic Idealize.ShloMosaic.TcCoe Idealize.SL.Sem
open Cert.KernelIdeal.Value (total xrow_mk IsReal near)

/-- The last point's product with the constant, over the total: the mean squared difference. -/
theorem loss_eq (x : Vec Ideal KernelIdeal.S32x576x64 .f32) (C : Fin 1024 → Fin 64 → ℝ) :
    KernelIdeal.Gen.k0_pay4 (F := Ideal) (total x C)
      = (((∑ b : Fin 32, ∑ n : Fin 576, Vq.sqd (Vq.X fun k => x (ix3 b n k)) (C (near x C b n))) / 1179648 : ℝ) : EReal) := by
  have ht : total x C
      = ((∑ b : Fin 32, ∑ n : Fin 576, Vq.sqd (Vq.X fun k => x (ix3 b n k)) (C (near x C b n)) : ℝ) : EReal) := by
    unfold total
    rw [Fin.sum_univ_tiles 32 576 rfl, Vq.coe_sum]
    refine Finset.sum_congr rfl fun b _ => ?_
    rw [Vq.coe_sum]
    refine Finset.sum_congr rfl fun n _ => ?_
    rw [xrow_mk x b n _ rfl, Vq.D]
  have hk : KernelIdeal.Gen.k0_pay4 (F := Ideal) (total x C) = total x C * ((1 / 1179648 : ℝ) : EReal) :=
    congrArg (total x C * ·) (IdealRules.named_const.ideal_named_scalar _ _ _ _ rfl)
  rw [hk, ht, ← EReal.coe_mul]
  exact congrArg Real.toEReal (by ring)

/-- An extended real whose absolute value is below the top is a real. -/
theorem real_of_abs_lt (a : EReal) (h : max a (-a) < ⊤) : ∃ r : ℝ, a = r := by
  induction a with
  | bot => simp at h
  | top => simp at h
  | coe r => exact ⟨r, rfl⟩

/-- A codebook the precondition passes is one of reals. -/
theorem isReal_of_pre (x : FVec Ideal Pre_finite_codebook.S32x576x64 .f32) (cb : FVec Ideal Pre_finite_codebook.S1024x64 .f32)
    (h : Pre_finite_codebook.fn (F := Ideal) x cb = fun _ => 1#1) : ∃ C : Fin 1024 → Fin 64 → ℝ, IsReal cb C := by
  have hfin : ∀ n k, ∃ r : ℝ, cb (ix2 n k) = (r : EReal) := fun n k => by
    have e := Host.reduce_andi_eq_one _ _ _ _ _ (congrFun h ix0) (ix2 n k) (funext fun a => a.elim0)
    pointwise at e
    have hlt : max (cb (ix2 n k)) (-cb (ix2 n k)) < (⊤ : EReal) := by
      rw [Vq.cinf] at e
      by_contra hn
      rw [show decide (FloatOps.absf (cb (ix2 n k)) < (⊤ : EReal)) = false from decide_eq_false hn] at e
      exact absurd e (by decide)
    exact real_of_abs_lt _ hlt
  choose C hC using hfin
  exact ⟨C, hC⟩

/-- From memories that agree on the arguments, the codebook finite, both programs end with the same three results. -/
theorem algebraic : algebraic_KernelIdeal_ReferenceIdeal_pre_finite_codebook (hKernelIdeal := Cert.KernelIdeal.Gen.facts)
    (hReferenceIdeal := Cert.ReferenceIdeal.Gen.facts) (hPre_finite_codebook := Cert.Pre_finite_codebook.Gen.facts) := by
  intro m g m' g' hpre hagree
  choose C hC using fun c : Dev KernelIdeal.nD => isReal_of_pre _ _ (hpre c)
  refine ⟨fun c => fun i : KernelIdeal.S32x576x64.Idx => (C c (near (KernelIdeal.Value.xArg m c) (C c) (i 0) (i 1)) (i 2) : EReal),
    fun c => fun i : KernelIdeal.S32x576.Idx => BitVec.ofNat 32 (near (KernelIdeal.Value.xArg m c) (C c) (i 0) (i 1)).val,
    fun c => fun _ : KernelIdeal.S_.Idx => KernelIdeal.Gen.k0_pay4 (F := Ideal) (total (KernelIdeal.Value.xArg m c) (C c)),
    ?_, ?_⟩
  · refine (θ_run KernelIdeal.defs _ _).mono (fun r h c => ?_) (KernelIdeal.Value.run m g C hC)
    obtain ⟨h0, h1, h2, h3, h4⟩ := h c
    refine ⟨funext fun i => ?_, funext fun i => ?_, funext fun i => h2 i, h3, h4⟩
    · obtain ⟨b, n, k, rfl⟩ : ∃ (b : Fin 32) (n : Fin 576) (k : Fin 64), i = ix3 b n k :=
        ⟨i 0, i 1, i 2, eq_ix3 (n0 := 32) (n1 := 576) (n2 := 64) i⟩
      exact h0 b n k
    · obtain ⟨b, n, rfl⟩ : ∃ (b : Fin 32) (n : Fin 576), i = ix2 b n := ⟨i 0, i 1, eq_ix2 (n0 := 32) (n1 := 576) i⟩
      exact h1 b n
  · refine (θ_run ReferenceIdeal.defs _ _).mono (fun r h c => ?_) (ReferenceIdeal.Value.run (F := Ideal) m' g')
    obtain ⟨h0, h1, h2, h3, h4⟩ := h c
    rw [(hagree c).1, (hagree c).2] at h0 h1 h2
    refine ⟨funext fun i => ?_, funext fun i => ?_, funext fun i => ?_, h3, h4⟩
    · obtain ⟨b, n, k, rfl⟩ : ∃ (b : Fin 32) (n : Fin 576) (k : Fin 64), i = ix3 b n k :=
        ⟨i 0, i 1, i 2, eq_ix3 (n0 := 32) (n1 := 576) (n2 := 64) i⟩
      exact (congrFun h0 _).trans (ReferenceIdeal.Value.result0 (hC c) b n k)
    · obtain ⟨b, n, rfl⟩ : ∃ (b : Fin 32) (n : Fin 576), i = ix2 b n := ⟨i 0, i 1, eq_ix2 (n0 := 32) (n1 := 576) i⟩
      exact (congrFun h1 _).trans (ReferenceIdeal.Value.result1 (hC c) b n)
    · exact ((congrFun h2 _).trans (ReferenceIdeal.Value.result2 (hC c) i)).trans (loss_eq _ _).symm

end Cert.Algebraic

end
-- ==== Proof.lean ====
/- The five claims about the vector quantiser: the three frames, the ideal program's correspondence to the kernel, and
   the equality of the kernel's results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_codebook
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference program runs, its arguments end unchanged, and every counter ends at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => ⟨(h c).2.2.2.1, (h c).2.2.2.2⟩,
    Idealize.ShloMosaic.sem_eq_zero_of_no_sems (by decide) r.2⟩) (Cert.ReferenceIdeal.Value.run (F := Ideal) m g)

/-- The kernel, its ideal program and the reference each run without fault, leave their arguments and end with every
counter at zero; the named constant stands for the literal it replaces; kernel and reference have equal results. -/
theorem claim : Cert.Claim :=
  ⟨Cert.Kernel.Gen.facts, Cert.KernelIdeal.Gen.facts, Cert.ReferenceIdeal.Gen.facts, Cert.Pre_finite_codebook.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    IdealRules.named_const.statement Cert.KernelIdeal.κ "inv_n" .f32 0x35638E39#32 _ rfl, Cert.Algebraic.algebraic⟩

end Cert.Proof

end
